-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_projection [hPre_finite_projection : Cert.Pre_finite_projection.Facts] (m : (ℓ : Loc Cert.KernelIdeal.nD Cert.KernelIdeal.τ Cert.KernelIdeal.sig) → Buf (Elt Ideal) ℓ) : Prop :=
  ∀ c : Dev Cert.KernelIdeal.nD,
    (Cert.Pre_finite_projection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_projection [hPre_finite_projection : Cert.Pre_finite_projection.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_projection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_attention [hPre_finite_attention : Cert.Pre_finite_attention.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_attention.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_attention [hPre_finite_attention : Cert.Pre_finite_attention.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_attention.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_projection [hKernelIdeal : Cert.KernelIdeal.Facts] [hPre_finite_projection : Cert.Pre_finite_projection.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_projection m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_projection [hReferenceIdeal : Cert.ReferenceIdeal.Facts] [hPre_finite_projection : Cert.Pre_finite_projection.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_projection m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite_attention [hKernel2Ideal : Cert.Kernel2Ideal.Facts] [hPre_finite_attention : Cert.Pre_finite_attention.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_attention m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite_attention [hReference2Ideal : Cert.Reference2Ideal.Facts] [hPre_finite_attention : Cert.Pre_finite_attention.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_attention m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  True

def algebraic_KernelIdeal_ReferenceIdeal_pre_finite_projection [hKernelIdeal : Cert.KernelIdeal.Facts] [hReferenceIdeal : Cert.ReferenceIdeal.Facts] [hPre_finite_projection : Cert.Pre_finite_projection.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_projection m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v29_1)) (v1 : (c : Dev Cert.KernelIdeal.nD) → Buf (Elt Ideal) ((c.tc : Thread Cert.KernelIdeal.nD Cert.KernelIdeal.τ).loc Cert.KernelIdeal.main_v29_2)) (v2 : (c : Dev Cert.KernelIdeal.nD) → Buf (Elt Ideal) ((c.tc : Thread Cert.KernelIdeal.nD Cert.KernelIdeal.τ).loc Cert.KernelIdeal.main_v29_3)) (v3 : (c : Dev Cert.KernelIdeal.nD) → Buf (Elt Ideal) ((c.tc : Thread Cert.KernelIdeal.nD Cert.KernelIdeal.τ).loc Cert.KernelIdeal.main_v29_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_1) = v0 c
          ∧ r.2.mem ((c.tc : Thread Cert.KernelIdeal.nD Cert.KernelIdeal.τ).loc Cert.KernelIdeal.main_v29_2) = v1 c
          ∧ r.2.mem ((c.tc : Thread Cert.KernelIdeal.nD Cert.KernelIdeal.τ).loc Cert.KernelIdeal.main_v29_3) = v2 c
          ∧ r.2.mem ((c.tc : Thread Cert.KernelIdeal.nD Cert.KernelIdeal.τ).loc Cert.KernelIdeal.main_v29_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal_pre_finite_attention [hKernel2Ideal : Cert.Kernel2Ideal.Facts] [hReference2Ideal : Cert.Reference2Ideal.Facts] [hPre_finite_attention : Cert.Pre_finite_attention.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_attention m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_v13_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v48) = v1 c
          ∧ r.2.mem ((c.tc : Thread Cert.Reference2Ideal.nD Cert.Reference2Ideal.τ).loc Cert.Reference2Ideal.main_v49) = v2 c
          ∧ r.2.mem ((c.tc : Thread Cert.Reference2Ideal.nD Cert.Reference2Ideal.τ).loc Cert.Reference2Ideal.main_v50) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v64) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_v21) = v2 c
          ∧ r.2.mem ((c.tc : Thread Cert.Reference4Ideal.nD Cert.Reference4Ideal.τ).loc Cert.Reference4Ideal.main_v22) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_projection : Cert.Pre_finite_projection.Facts) (hPre_finite_attention : Cert.Pre_finite_attention.Facts),
    quiescent_Kernel (hKernel := hKernel)
    ∧ quiescent_KernelIdeal (hKernelIdeal := hKernelIdeal)
    ∧ quiescent_KernelIdeal_pre_finite_projection (hKernelIdeal := hKernelIdeal) (hPre_finite_projection := hPre_finite_projection)
    ∧ quiescent_ReferenceIdeal (hReferenceIdeal := hReferenceIdeal)
    ∧ quiescent_ReferenceIdeal_pre_finite_projection (hReferenceIdeal := hReferenceIdeal) (hPre_finite_projection := hPre_finite_projection)
    ∧ quiescent_Kernel2 (hKernel2 := hKernel2)
    ∧ quiescent_Kernel2Ideal (hKernel2Ideal := hKernel2Ideal)
    ∧ quiescent_Kernel2Ideal_pre_finite_attention (hKernel2Ideal := hKernel2Ideal) (hPre_finite_attention := hPre_finite_attention)
    ∧ quiescent_Reference2Ideal (hReference2Ideal := hReference2Ideal)
    ∧ quiescent_Reference2Ideal_pre_finite_attention (hReference2Ideal := hReference2Ideal) (hPre_finite_attention := hPre_finite_attention)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_projection (hKernelIdeal := hKernelIdeal) (hReferenceIdeal := hReferenceIdeal) (hPre_finite_projection := hPre_finite_projection)
    ∧ preserves_Kernel2_Kernel2Ideal
    ∧ algebraic_Kernel2Ideal_Reference2Ideal_pre_finite_attention (hKernel2Ideal := hKernel2Ideal) (hReference2Ideal := hReference2Ideal) (hPre_finite_attention := hPre_finite_attention)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_attention.lean ====
abbrev S8x2048x1024 : Shape := ⟨3, ![8, 2048, 1024]⟩
abbrev S1024 : Shape := ⟨1, ![1024]⟩
abbrev S1024x1024 : Shape := ⟨2, ![1024, 1024]⟩
abbrev S8x256x4x256 : Shape := ⟨4, ![8, 256, 4, 256]⟩
abbrev S1024x2816 : Shape := ⟨2, ![1024, 2816]⟩
abbrev S2816x1024 : Shape := ⟨2, ![2816, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S8x256x4x256 : S_.BroadcastsInDim S8x256x4x256 (![] : Fin 0 → Fin S8x256x4x256.rank)
  reducesTo_S8x256x4x256_S_d0_1_2_3 : S8x256x4x256.ReducesTo [0, 1, 2, 3] S_

variable [Facts]

def fn_part1 {F : FTy → Type} [FloatOps F] (main_v13 : IVec S_ 1) (main_v16 : IVec S8x256x4x256 1) : IVec S_ 1 :=
  let main_c_5 : IVec S_ 1 := constantI S_ 1 1#1
  let main_v17 : IVec S_ 1 := (fun x v => Host.reduce IntOp.andi x v reducesTo_S8x256x4x256_S_d0_1_2_3 h_S_) main_v16 main_c_5
  let main_v18 : IVec S_ 1 := andi main_v13 main_v17
  main_v18

def fn {F : FTy → Type} [FloatOps F] (main_arg0 : FVec F S8x2048x1024 .f32) (main_arg1 : FVec F S1024 .f32) (main_arg2 : FVec F S1024x1024 .f32) (main_arg3 : FVec F S8x256x4x256 .f32) (main_arg4 : FVec F S8x256x4x256 .f32) (main_arg5 : FVec F S1024x1024 .f32) (main_arg6 : FVec F S1024 .f32) (main_arg7 : FVec F S1024x2816 .f32) (main_arg8 : FVec F S1024x2816 .f32) (main_arg9 : FVec F S2816x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S8x256x4x256 .f32 := Host.absf main_arg3
  let main_cst_4 : FVec F S_ .f32 := constant S_ .f32 0x7F800000#32
  let main_v15 : FVec F S8x256x4x256 .f32 := broadcastInDim S8x256x4x256 ![] bcast_S_S8x256x4x256 main_cst_4
  let main_v16 : IVec S8x256x4x256 1 := cmpf .olt main_v14 main_v15
  fn_part1 (F := F) main_v13 main_v16
-- ==== Pre_finite_projection.lean ====
abbrev S128x4x1024 : Shape := ⟨3, ![128, 4, 1024]⟩
abbrev S128x3x1024 : Shape := ⟨3, ![128, 3, 1024]⟩
abbrev S128x8x64x128 : Shape := ⟨4, ![128, 8, 64, 128]⟩
abbrev S128x128x2x64 : Shape := ⟨4, ![128, 128, 2, 64]⟩
abbrev S1024 : Shape := ⟨1, ![1024]⟩
abbrev S1024x2312 : Shape := ⟨2, ![1024, 2312]⟩
abbrev S4x1024 : Shape := ⟨2, ![4, 1024]⟩
abbrev S8 : Shape := ⟨1, ![8]⟩
abbrev S512 : Shape := ⟨1, ![512]⟩
abbrev S1024x1024 : Shape := ⟨2, ![1024, 1024]⟩
abbrev S_ : Shape := ⟨0, ![]⟩

class Facts : Prop where
  bcast_S_S128x4x1024 : S_.BroadcastsInDim S128x4x1024 (![] : Fin 0 → Fin S128x4x1024.rank)
  reducesTo_S128x4x1024_S_d0_1_2 : S128x4x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2312 : S_.BroadcastsInDim S1024x2312 (![] : Fin 0 → Fin S1024x2312.rank)
  reducesTo_S1024x2312_S_d0_1 : S1024x2312.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S128x4x1024 .f32) (main_arg1 : FVec F S128x3x1024 .f32) (main_arg2 : FVec F S128x8x64x128 .f32) (main_arg3 : FVec F S128x128x2x64 .f32) (main_arg4 : FVec F S128x128x2x64 .f32) (main_arg5 : FVec F S1024 .f32) (main_arg6 : FVec F S1024x2312 .f32) (main_arg7 : FVec F S4x1024 .f32) (main_arg8 : FVec F S1024 .f32) (main_arg9 : FVec F S8 .f32) (main_arg10 : FVec F S8 .f32) (main_arg11 : FVec F S8 .f32) (main_arg12 : FVec F S512 .f32) (main_arg13 : FVec F S8 .f32) (main_arg14 : FVec F S1024x1024 .f32) (main_arg15 : FVec F S1024 .f32) : IVec S_ 1 :=
  let main_v0 : FVec F S128x4x1024 .f32 := Host.absf main_arg0
  let main_cst : FVec F S_ .f32 := constant S_ .f32 0x7F800000#32
  let main_v1 : FVec F S128x4x1024 .f32 := broadcastInDim S128x4x1024 ![] bcast_S_S128x4x1024 main_cst
  let main_v2 : IVec S128x4x1024 1 := cmpf .olt main_v0 main_v1
  let main_c : IVec S_ 1 := constantI S_ 1 1#1
  let main_v3 : IVec S_ 1 := (fun x v => Host.reduce IntOp.andi x v reducesTo_S128x4x1024_S_d0_1_2 h_S_) main_v2 main_c
  let main_v4 : FVec F S1024 .f32 := Host.absf main_arg5
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2312 .f32 := Host.absf main_arg6
  let main_cst_2 : FVec F S_ .f32 := constant S_ .f32 0x7F800000#32
  let main_v10 : FVec F S1024x2312 .f32 := broadcastInDim S1024x2312 ![] bcast_S_S1024x2312 main_cst_2
  let main_v11 : IVec S1024x2312 1 := cmpf .olt main_v9 main_v10
  let main_c_3 : IVec S_ 1 := constantI S_ 1 1#1
  let main_v12 : IVec S_ 1 := (fun x v => Host.reduce IntOp.andi x v reducesTo_S1024x2312_S_d0_1 h_S_) main_v11 main_c_3
  let main_v13 : IVec S_ 1 := andi main_v8 main_v12
  let main_v14 : FVec F S8 .f32 := Host.absf main_arg9
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S128x4x1024 : Shape := ⟨3, ![128, 4, 1024]⟩
abbrev S128x3x1024 : Shape := ⟨3, ![128, 3, 1024]⟩
abbrev S128x8x64x128 : Shape := ⟨4, ![128, 8, 64, 128]⟩
abbrev S128x128x2x64 : Shape := ⟨4, ![128, 128, 2, 64]⟩
abbrev S1024 : Shape := ⟨1, ![1024]⟩
abbrev S1024x2312 : Shape := ⟨2, ![1024, 2312]⟩
abbrev S4x1024 : Shape := ⟨2, ![4, 1024]⟩
abbrev S8 : Shape := ⟨1, ![8]⟩
abbrev S512 : Shape := ⟨1, ![512]⟩
abbrev S1024x1024 : Shape := ⟨2, ![1024, 1024]⟩
abbrev S3x128x1024 : Shape := ⟨3, ![3, 128, 1024]⟩
abbrev S128x512x128 : Shape := ⟨3, ![128, 512, 128]⟩
abbrev S128x2x64x128 : Shape := ⟨4, ![128, 2, 64, 128]⟩
abbrev S8x64 : Shape := ⟨2, ![8, 64]⟩
abbrev S512x1 : Shape := ⟨2, ![512, 1]⟩
abbrev S1x1024 : Shape := ⟨2, ![1, 1024]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S1024x1536 : Shape := ⟨2, ![1024, 1536]⟩
abbrev S1024x512 : Shape := ⟨2, ![1024, 512]⟩
abbrev S1024x256 : Shape := ⟨2, ![1024, 256]⟩
abbrev S1024x2432 : Shape := ⟨2, ![1024, 2432]⟩
abbrev S1x8 : Shape := ⟨2, ![1, 8]⟩
abbrev S1x128 : Shape := ⟨2, ![1, 128]⟩
abbrev S1x512 : Shape := ⟨2, ![1, 512]⟩
abbrev S4x128x1024 : Shape := ⟨3, ![4, 128, 1024]⟩
abbrev S16x4x1024 : Shape := ⟨3, ![16, 4, 1024]⟩
abbrev S3x16x1024 : Shape := ⟨3, ![3, 16, 1024]⟩
abbrev S16x512x128 : Shape := ⟨3, ![16, 512, 128]⟩
abbrev S16x2x64x128 : Shape := ⟨4, ![16, 2, 64, 128]⟩
abbrev S4x16x1024 : Shape := ⟨3, ![4, 16, 1024]⟩
abbrev S16x1x1024 : Shape := ⟨3, ![16, 1, 1024]⟩
abbrev S16x1024 : Shape := ⟨2, ![16, 1024]⟩
abbrev S64x1024 : Shape := ⟨2, ![64, 1024]⟩
abbrev S64 : Shape := ⟨1, ![64]⟩
abbrev S64x1 : Shape := ⟨2, ![64, 1]⟩
abbrev S64x512 : Shape := ⟨2, ![64, 512]⟩
abbrev S64x128 : Shape := ⟨2, ![64, 128]⟩
abbrev S128x128 : Shape := ⟨2, ![128, 128]⟩
abbrev S256x1 : Shape := ⟨2, ![256, 1]⟩
abbrev S64x64 : Shape := ⟨2, ![64, 64]⟩
abbrev S256x64 : Shape := ⟨2, ![256, 64]⟩
abbrev S1x1x64x128 : Shape := ⟨4, ![1, 1, 64, 128]⟩
abbrev S256x128 : Shape := ⟨2, ![256, 128]⟩
abbrev S1x16x1024 : Shape := ⟨3, ![1, 16, 1024]⟩
abbrev S64x256 : Shape := ⟨2, ![64, 256]⟩
abbrev S16x128 : Shape := ⟨2, ![16, 128]⟩
abbrev S128x512 : Shape := ⟨2, ![128, 512]⟩
abbrev S256x512 : Shape := ⟨2, ![256, 512]⟩
abbrev S304x128 : Shape := ⟨2, ![304, 128]⟩
abbrev S304x256 : Shape := ⟨2, ![304, 256]⟩
abbrev S304x512 : Shape := ⟨2, ![304, 512]⟩
abbrev S512x512 : Shape := ⟨2, ![512, 512]⟩
abbrev S16x256 : Shape := ⟨2, ![16, 256]⟩
abbrev S160x256 : Shape := ⟨2, ![160, 256]⟩
abbrev S160x512 : Shape := ⟨2, ![160, 512]⟩
abbrev S256 : Shape := ⟨1, ![256]⟩
abbrev S16x64 : Shape := ⟨2, ![16, 64]⟩
abbrev S16x512 : Shape := ⟨2, ![16, 512]⟩
abbrev S16x1x128 : Shape := ⟨3, ![16, 1, 128]⟩
abbrev S16x256x128 : Shape := ⟨3, ![16, 256, 128]⟩
abbrev S4096x128 : Shape := ⟨2, ![4096, 128]⟩
abbrev S128x256 : Shape := ⟨2, ![128, 256]⟩
abbrev S1x256x128 : Shape := ⟨3, ![1, 256, 128]⟩
abbrev S112x256 : Shape := ⟨2, ![112, 256]⟩
abbrev S16x256x1 : Shape := ⟨3, ![16, 256, 1]⟩
abbrev S512x1024 : Shape := ⟨2, ![512, 1024]⟩

abbrev nBuf : Space → Nat
  | .hbm => 56
  | .vmem => 31
  | .smem => 0
  | _ => 0

abbrev bufTy : (tb : Table) → Fin (tcTables nBuf tb) → BufTy
  | .hbm, ⟨0, _⟩ => ⟨S128x4x1024, .f32⟩
  | .hbm, ⟨1, _⟩ => ⟨S128x3x1024, .f32⟩
  | .hbm, ⟨2, _⟩ => ⟨S128x8x64x128, .f32⟩
  | .hbm, ⟨3, _⟩ => ⟨S128x128x2x64, .f32⟩
  | .hbm, ⟨4, _⟩ => ⟨S128x128x2x64, .f32⟩
  | .hbm, ⟨5, _⟩ => ⟨S1024, .f32⟩
  | .hbm, ⟨6, _⟩ => ⟨S1024x2312, .f32⟩
  | .hbm, ⟨7, _⟩ => ⟨S4x1024, .f32⟩
  | .hbm, ⟨8, _⟩ => ⟨S1024, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S512, .f32⟩
  | .hbm, ⟨13, _⟩ => ⟨S8, .f32⟩
  | .hbm, ⟨14, _⟩ => ⟨S1024x1024, .f32⟩
  | .hbm, ⟨15, _⟩ => ⟨S1024, .f32⟩
  | .hbm, ⟨16, _⟩ => ⟨S3x128x1024, .f32⟩
  | .hbm, ⟨17, _⟩ => ⟨S128x512x128, .f32⟩
  | .hbm, ⟨18, _⟩ => ⟨S128x2x64x128, .f32⟩
  | .hbm, ⟨19, _⟩ => ⟨S128x2x64x128, .f32⟩
  | .hbm, ⟨20, _⟩ => ⟨S8x64, .f32⟩
  | .hbm, ⟨21, _⟩ => ⟨S512, .f32⟩
  | .hbm, ⟨22, _⟩ => ⟨S512x1, .f32⟩
  | .hbm, ⟨23, _⟩ => ⟨S1x1024, .f32⟩
  | .hbm, ⟨24, _⟩ => ⟨S1024x8, .f32⟩
  | .hbm, ⟨25, _⟩ => ⟨S_, .f32⟩
  | .hbm, ⟨26, _⟩ => ⟨S1024x120, .f32⟩
  | .hbm, ⟨27, _⟩ => ⟨S1024x128, .f32⟩
  | .hbm, ⟨28, _⟩ => ⟨S1024x1536, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x256, .f32⟩
  | .hbm, ⟨34, _⟩ => ⟨S1024x2432, .f32⟩
  | .hbm, ⟨35, _⟩ => ⟨S1024x2432, .bf16⟩
  | .hbm, ⟨36, _⟩ => ⟨S1x1024, .f32⟩
  | .hbm, ⟨37, _⟩ => ⟨S1x8, .f32⟩
  | .hbm, ⟨38, _⟩ => ⟨S_, .i32⟩
  | .hbm, ⟨39, _⟩ => ⟨S_, .f32⟩
  | .hbm, ⟨40, _⟩ => ⟨S1x128, .f32⟩
  | .hbm, ⟨41, _⟩ => ⟨S1x8, .f32⟩
  | .hbm, ⟨42, _⟩ => ⟨S_, .i32⟩
  | .hbm, ⟨43, _⟩ => ⟨S_, .f32⟩
  | .hbm, ⟨44, _⟩ => ⟨S1x128, .f32⟩
  | .hbm, ⟨45, _⟩ => ⟨S8x64, .f32⟩
  | .hbm, ⟨46, _⟩ => ⟨S512, .f32⟩
  | .hbm, ⟨47, _⟩ => ⟨S1x512, .f32⟩
  | .hbm, ⟨48, _⟩ => ⟨S1x512, .f32⟩
  | .hbm, ⟨49, _⟩ => ⟨S1024x1024, .bf16⟩
  | .hbm, ⟨50, _⟩ => ⟨S1x1024, .f32⟩
  | .hbm, ⟨51, _⟩ => ⟨S4x128x1024, .f32⟩
  | .hbm, ⟨52, _⟩ => ⟨S128x512x128, .f32⟩
  | .hbm, ⟨53, _⟩ => ⟨S3x128x1024, .f32⟩
  | .hbm, ⟨54, _⟩ => ⟨S128x2x64x128, .f32⟩
  | .hbm, ⟨55, _⟩ => ⟨S128x2x64x128, .f32⟩
  | .local _ .vmem, ⟨0, _⟩ => ⟨S16x4x1024, .f32⟩
  | .local _ .vmem, ⟨1, _⟩ => ⟨S16x4x1024, .f32⟩
  | .local _ .vmem, ⟨2, _⟩ => ⟨S3x16x1024, .f32⟩
  | .local _ .vmem, ⟨3, _⟩ => ⟨S3x16x1024, .f32⟩
  | .local _ .vmem, ⟨4, _⟩ => ⟨S16x512x128, .f32⟩
  | .local _ .vmem, ⟨5, _⟩ => ⟨S16x512x128, .f32⟩
  | .local _ .vmem, ⟨6, _⟩ => ⟨S16x2x64x128, .f32⟩
  | .local _ .vmem, ⟨7, _⟩ => ⟨S16x2x64x128, .f32⟩
  | .local _ .vmem, ⟨8, _⟩ => ⟨S16x2x64x128, .f32⟩
  | .local _ .vmem, ⟨9, _⟩ => ⟨S16x2x64x128, .f32⟩
  | .local _ .vmem, ⟨10, _⟩ => ⟨S1x1024, .f32⟩
  | .local _ .vmem, ⟨11, _⟩ => ⟨S1024x2432, .bf16⟩
  | .local _ .vmem, ⟨12, _⟩ => ⟨S4x1024, .f32⟩
  | .local _ .vmem, ⟨13, _⟩ => ⟨S1x1024, .f32⟩
  | .local _ .vmem, ⟨14, _⟩ => ⟨S1x128, .f32⟩
  | .local _ .vmem, ⟨15, _⟩ => ⟨S1x128, .f32⟩
  | .local _ .vmem, ⟨16, _⟩ => ⟨S1x512, .f32⟩
  | .local _ .vmem, ⟨17, _⟩ => ⟨S1x512, .f32⟩
  | .local _ .vmem, ⟨18, _⟩ => ⟨S512x1, .f32⟩
  | .local _ .vmem, ⟨19, _⟩ => ⟨S1024x1024, .bf16⟩
  | .local _ .vmem, ⟨20, _⟩ => ⟨S1x1024, .f32⟩
  | .local _ .vmem, ⟨21, _⟩ => ⟨S4x16x1024, .f32⟩
  | .local _ .vmem, ⟨22, _⟩ => ⟨S4x16x1024, .f32⟩
  | .local _ .vmem, ⟨23, _⟩ => ⟨S16x512x128, .f32⟩
  | .local _ .vmem, ⟨24, _⟩ => ⟨S16x512x128, .f32⟩
  | .local _ .vmem, ⟨25, _⟩ => ⟨S3x16x1024, .f32⟩
  | .local _ .vmem, ⟨26, _⟩ => ⟨S3x16x1024, .f32⟩
  | .local _ .vmem, ⟨27, _⟩ => ⟨S16x2x64x128, .f32⟩
  | .local _ .vmem, ⟨28, _⟩ => ⟨S16x2x64x128, .f32⟩
  | .local _ .vmem, ⟨29, _⟩ => ⟨S16x2x64x128, .f32⟩
  | .local _ .vmem, ⟨30, _⟩ => ⟨S16x2x64x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_call0_v0 : Ref sig .tc := ⟨.hbm, 39, rfl⟩
abbrev main_v20 : Ref sig .tc := ⟨.hbm, 40, rfl⟩
abbrev main_v21 : Ref sig .tc := ⟨.hbm, 41, rfl⟩
abbrev main_c_1 : Ref sig .tc := ⟨.hbm, 42, rfl⟩
abbrev main_call1_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29_0 : Ref sig .tc := ⟨.hbm, 51, rfl⟩
abbrev main_v29_1 : Ref sig .tc := ⟨.hbm, 52, rfl⟩
abbrev main_v29_2 : Ref sig .tc := ⟨.hbm, 53, rfl⟩
abbrev main_v29_3 : Ref sig .tc := ⟨.hbm, 54, rfl⟩
abbrev main_v29_4 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2432 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4x16x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S3x16x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x2x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S16x2x64x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S128x4x1024 : Shape := ⟨3, ![128, 4, 1024]⟩
abbrev S128x3x1024 : Shape := ⟨3, ![128, 3, 1024]⟩
abbrev S128x8x64x128 : Shape := ⟨4, ![128, 8, 64, 128]⟩
abbrev S128x128x2x64 : Shape := ⟨4, ![128, 128, 2, 64]⟩
abbrev S1024 : Shape := ⟨1, ![1024]⟩
abbrev S1024x2312 : Shape := ⟨2, ![1024, 2312]⟩
abbrev S4x1024 : Shape := ⟨2, ![4, 1024]⟩
abbrev S8 : Shape := ⟨1, ![8]⟩
abbrev S512 : Shape := ⟨1, ![512]⟩
abbrev S1024x1024 : Shape := ⟨2, ![1024, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x2312 : Shape := ⟨3, ![128, 4, 2312]⟩
abbrev S128x4x8 : Shape := ⟨3, ![128, 4, 8]⟩
abbrev S128x4x128 : Shape := ⟨3, ![128, 4, 128]⟩
abbrev S128x7x1024 : Shape := ⟨3, ![128, 7, 1024]⟩
abbrev S1x1024 : Shape := ⟨2, ![1, 1024]⟩
abbrev S128x4x512 : Shape := ⟨3, ![128, 4, 512]⟩
abbrev S128x4x8x64 : Shape := ⟨4, ![128, 4, 8, 64]⟩
abbrev S128x4x256 : Shape := ⟨3, ![128, 4, 256]⟩
abbrev S128x4x2x128 : Shape := ⟨4, ![128, 4, 2, 128]⟩
abbrev S1x1x8 : Shape := ⟨3, ![1, 1, 8]⟩
abbrev S128x4x8x1 : Shape := ⟨4, ![128, 4, 8, 1]⟩
abbrev S128x4x2x4x64 : Shape := ⟨5, ![128, 4, 2, 4, 64]⟩
abbrev S128x4x2x4 : Shape := ⟨4, ![128, 4, 2, 4]⟩
abbrev S128x2x4x4 : Shape := ⟨4, ![128, 2, 4, 4]⟩
abbrev S128x2x4x1 : Shape := ⟨4, ![128, 2, 4, 1]⟩
abbrev S128x4x2x4x1 : Shape := ⟨5, ![128, 4, 2, 4, 1]⟩
abbrev S128x2x4x64x128 : Shape := ⟨5, ![128, 2, 4, 64, 128]⟩
abbrev S128x2x4 : Shape := ⟨3, ![128, 2, 4]⟩
abbrev S128x2x4x1x1 : Shape := ⟨5, ![128, 2, 4, 1, 1]⟩
abbrev S128x4x2x64 : Shape := ⟨4, ![128, 4, 2, 64]⟩
abbrev S128x132x2x64 : Shape := ⟨4, ![128, 132, 2, 64]⟩
abbrev S128x512x128 : Shape := ⟨3, ![128, 512, 128]⟩
abbrev S3x128x1024 : Shape := ⟨3, ![3, 128, 1024]⟩
abbrev S128x2x64x128 : Shape := ⟨4, ![128, 2, 64, 128]⟩

abbrev nBuf : Space → Nat
  | .hbm => 141
  | .vmem => 0
  | .smem => 0
  | _ => 0

abbrev hbmTy0_0 (i : Nat) : BufTy := match i % 128 with
  | 0 => ⟨S128x4x1024, .f32⟩
  | 1 => ⟨S128x3x1024, .f32⟩
  | 2 => ⟨S128x8x64x128, .f32⟩
  | 3 => ⟨S128x128x2x64, .f32⟩
  | 4 => ⟨S128x128x2x64, .f32⟩
  | 5 => ⟨S1024, .f32⟩
  | 6 => ⟨S1024x2312, .f32⟩
  | 7 => ⟨S4x1024, .f32⟩
  | 8 => ⟨S1024, .f32⟩
  | 9 => ⟨S8, .f32⟩
  | 10 => ⟨S8, .f32⟩
  | 11 => ⟨S8, .f32⟩
  | 12 => ⟨S512, .f32⟩
  | 13 => ⟨S8, .f32⟩
  | 14 => ⟨S1024x1024, .f32⟩
  | 15 => ⟨S1024, .f32⟩
  | 16 => ⟨S128x4x1024, .f32⟩
  | 17 => ⟨S_, .f32⟩
  | 18 => ⟨S128x4, .f32⟩
  | 19 => ⟨S128x4x1, .f32⟩
  | 20 => ⟨S_, .f32⟩
  | 21 => ⟨S128x4x1, .f32⟩
  | 22 => ⟨S128x4x1, .f32⟩
  | 23 => ⟨S_, .f32⟩
  | 24 => ⟨S128x4x1, .f32⟩
  | 25 => ⟨S128x4x1, .f32⟩
  | 26 => ⟨S128x4x1, .f32⟩
  | 27 => ⟨S128x4x1024, .f32⟩
  | 28 => ⟨S128x4x1024, .f32⟩
  | 29 => ⟨S1x1x1024, .f32⟩
  | 30 => ⟨S128x4x1024, .f32⟩
  | 31 => ⟨S128x4x1024, .f32⟩
  | 32 => ⟨S128x4x2312, .f32⟩
  | 33 => ⟨S128x4x1024, .f32⟩
  | 34 => ⟨S128x4x8, .f32⟩
  | 35 => ⟨S128x4x128, .f32⟩
  | 36 => ⟨S128x4x128, .f32⟩
  | 37 => ⟨S128x7x1024, .f32⟩
  | 38 => ⟨S128x4x1024, .f32⟩
  | 39 => ⟨S1x1024, .f32⟩
  | 40 => ⟨S1024, .f32⟩
  | 41 => ⟨S1x1x1024, .f32⟩
  | 42 => ⟨S128x4x1024, .f32⟩
  | 43 => ⟨S128x4x1024, .f32⟩
  | 44 => ⟨S1x1x1024, .f32⟩
  | 45 => ⟨S128x4x1024, .f32⟩
  | 46 => ⟨S128x4x1024, .f32⟩
  | 47 => ⟨S128x4x1024, .f32⟩
  | 48 => ⟨S1x1024, .f32⟩
  | 49 => ⟨S1024, .f32⟩
  | 50 => ⟨S1x1x1024, .f32⟩
  | 51 => ⟨S128x4x1024, .f32⟩
  | 52 => ⟨S128x4x1024, .f32⟩
  | 53 => ⟨S128x4x1024, .f32⟩
  | 54 => ⟨S128x4x1024, .f32⟩
  | 55 => ⟨S1x1024, .f32⟩
  | 56 => ⟨S1024, .f32⟩
  | 57 => ⟨S1x1x1024, .f32⟩
  | 58 => ⟨S128x4x1024, .f32⟩
  | 59 => ⟨S128x4x1024, .f32⟩
  | 60 => ⟨S128x4x1024, .f32⟩
  | 61 => ⟨S128x4x1024, .f32⟩
  | 62 => ⟨S1x1024, .f32⟩
  | 63 => ⟨S1024, .f32⟩
  | 64 => ⟨S1x1x1024, .f32⟩
  | 65 => ⟨S128x4x1024, .f32⟩
  | 66 => ⟨S128x4x1024, .f32⟩
  | 67 => ⟨S128x4x1024, .f32⟩
  | 68 => ⟨S128x4x1024, .f32⟩
  | 69 => ⟨S128x4x1024, .f32⟩
  | 70 => ⟨S_, .f32⟩
  | 71 => ⟨S128x4x1024, .f32⟩
  | 72 => ⟨S128x4x1024, .f32⟩
  | 73 => ⟨S_, .f32⟩
  | 74 => ⟨S128x4x1024, .f32⟩
  | 75 => ⟨S128x4x1024, .f32⟩
  | 76 => ⟨S128x4x1024, .f32⟩
  | 77 => ⟨S128x3x1024, .f32⟩
  | 78 => ⟨S128x4x512, .f32⟩
  | 79 => ⟨S128x4x8x64, .f32⟩
  | 80 => ⟨S128x4x256, .f32⟩
  | 81 => ⟨S128x4x2x128, .f32⟩
  | 82 => ⟨S1x1x8, .f32⟩
  | 83 => ⟨S128x4x8, .f32⟩
  | 84 => ⟨S128x4x8, .f32⟩
  | 85 => ⟨S_, .f32⟩
  | 86 => ⟨S128x4x8, .f32⟩
  | 87 => ⟨S128x4x8, .f32⟩
  | 88 => ⟨S128x4x8, .f32⟩
  | 89 => ⟨S128x4x8, .f32⟩
  | 90 => ⟨S128x4x8, .i1⟩
  | 91 => ⟨S128x4x8, .f32⟩
  | 92 => ⟨S128x4x8, .f32⟩
  | 93 => ⟨S128x4x8, .f32⟩
  | 94 => ⟨S128x4x8, .f32⟩
  | 95 => ⟨S128x4x8, .f32⟩
  | 96 => ⟨S128x4x8, .f32⟩
  | 97 => ⟨S128x4x8, .f32⟩
  | 98 => ⟨S128x4x8, .f32⟩
  | 99 => ⟨S8, .f32⟩
  | 100 => ⟨S8, .f32⟩
  | 101 => ⟨S128x4x8x1, .f32⟩
  | 102 => ⟨S128x4x8x64, .f32⟩
  | 103 => ⟨S128x4x8x64, .f32⟩
  | 104 => ⟨S128x4x2x4x64, .f32⟩
  | 105 => ⟨S1x1x8, .f32⟩
  | 106 => ⟨S128x4x8, .f32⟩
  | 107 => ⟨S128x4x8, .f32⟩
  | 108 => ⟨S128x4x2x4, .f32⟩
  | 109 => ⟨S128x2x4x4, .f32⟩
  | 110 => ⟨S_, .f32⟩
  | 111 => ⟨S_, .f32⟩
  | 112 => ⟨S128x2x4x4, .f32⟩
  | 113 => ⟨S128x2x4x1, .f32⟩
  | 114 => ⟨S128x2x4x4, .f32⟩
  | 115 => ⟨S128x2x4x4, .f32⟩
  | 116 => ⟨S128x2x4x4, .f32⟩
  | 117 => ⟨S128x4x2x4, .f32⟩
  | 118 => ⟨S128x4x2x4x1, .f32⟩
  | 119 => ⟨S128x4x2x4x64, .f32⟩
  | 120 => ⟨S128x4x2x4x64, .f32⟩
  | 121 => ⟨S128x2x4x64x128, .f32⟩
  | 122 => ⟨S128x2x4x64x128, .f32⟩
  | 123 => ⟨S128x2x4x1, .f32⟩
  | 124 => ⟨S128x2x4, .f32⟩
  | 125 => ⟨S128x2x4, .f32⟩
  | 126 => ⟨S128x2x4x1x1, .f32⟩
  | 127 => ⟨S128x2x4x64x128, .f32⟩
  | _ => ⟨S128x4x1024, .f32⟩

abbrev hbmTy0_1 (i : Nat) : BufTy := match i % 128 with
  | 0 => ⟨S128x2x4x64x128, .f32⟩
  | 1 => ⟨S128x2x4x64x128, .f32⟩
  | 2 => ⟨S128x8x64x128, .f32⟩
  | 3 => ⟨S128x4x2x64, .f32⟩
  | 4 => ⟨S128x132x2x64, .f32⟩
  | 5 => ⟨S128x4x2x64, .f32⟩
  | 6 => ⟨S128x132x2x64, .f32⟩
  | 7 => ⟨S128x512x128, .f32⟩
  | 8 => ⟨S3x128x1024, .f32⟩
  | 9 => ⟨S128x128x2x64, .f32⟩
  | 10 => ⟨S128x2x64x128, .f32⟩
  | 11 => ⟨S128x128x2x64, .f32⟩
  | 12 => ⟨S128x2x64x128, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_call2_call0_cst : Ref sig .tc := ⟨.hbm, 110, rfl⟩
abbrev main_call2_call0_v0 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1024x1024 : Shape := ⟨2, ![1024, 1024]⟩
abbrev S8x256x4x256 : Shape := ⟨4, ![8, 256, 4, 256]⟩
abbrev S1024x2816 : Shape := ⟨2, ![1024, 2816]⟩
abbrev S2816x1024 : Shape := ⟨2, ![2816, 1024]⟩
abbrev S8x256x1024 : Shape := ⟨3, ![8, 256, 1024]⟩
abbrev S1x1024 : Shape := ⟨2, ![1, 1024]⟩
abbrev S_ : Shape := ⟨0, ![]⟩
abbrev S2x4x2048x1024 : Shape := ⟨4, ![2, 4, 2048, 1024]⟩
abbrev S2x4x256x1024 : Shape := ⟨4, ![2, 4, 256, 1024]⟩
abbrev S2x1x512x1024 : Shape := ⟨4, ![2, 1, 512, 1024]⟩
abbrev S2x1x256x1024 : Shape := ⟨4, ![2, 1, 256, 1024]⟩
abbrev S64x2816 : Shape := ⟨2, ![64, 2816]⟩
abbrev S176x1024 : Shape := ⟨2, ![176, 1024]⟩
abbrev S1x1x512x1024 : Shape := ⟨4, ![1, 1, 512, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x1x256x256 : Shape := ⟨4, ![1, 1, 256, 256]⟩
abbrev S256x256 : Shape := ⟨2, ![256, 256]⟩

abbrev nBuf : Space → Nat
  | .hbm => 28
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1024, .f32⟩
  | .hbm, ⟨3, _⟩ => ⟨S8x256x4x256, .f32⟩
  | .hbm, ⟨4, _⟩ => ⟨S8x256x4x256, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S8x256x1024, .f32⟩
  | .hbm, ⟨11, _⟩ => ⟨S8x256x1024, .bf16⟩
  | .hbm, ⟨12, _⟩ => ⟨S8x256x1024, .f32⟩
  | .hbm, ⟨13, _⟩ => ⟨S8x256x1024, .bf16⟩
  | .hbm, ⟨14, _⟩ => ⟨S1x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1024x1024, .bf16⟩
  | .hbm, ⟨20, _⟩ => ⟨S1x1024, .f32⟩
  | .hbm, ⟨21, _⟩ => ⟨S2x4x2048x1024, .f32⟩
  | .hbm, ⟨22, _⟩ => ⟨S2x4x256x1024, .bf16⟩
  | .hbm, ⟨23, _⟩ => ⟨S2x4x256x1024, .bf16⟩
  | .hbm, ⟨24, _⟩ => ⟨S2x4x2048x1024, .f32⟩
  | .hbm, ⟨25, _⟩ => ⟨S1024x2816, .bf16⟩
  | .hbm, ⟨26, _⟩ => ⟨S1024x2816, .bf16⟩
  | .hbm, ⟨27, _⟩ => ⟨S2816x1024, .bf16⟩
  | .local _ .vmem, ⟨0, _⟩ => ⟨S2x1x512x1024, .f32⟩
  | .local _ .vmem, ⟨1, _⟩ => ⟨S2x1x512x1024, .f32⟩
  | .local _ .vmem, ⟨2, _⟩ => ⟨S1x1024, .f32⟩
  | .local _ .vmem, ⟨3, _⟩ => ⟨S1024x1024, .bf16⟩
  | .local _ .vmem, ⟨4, _⟩ => ⟨S2x1x256x1024, .bf16⟩
  | .local _ .vmem, ⟨5, _⟩ => ⟨S2x1x256x1024, .bf16⟩
  | .local _ .vmem, ⟨6, _⟩ => ⟨S2x1x256x1024, .bf16⟩
  | .local _ .vmem, ⟨7, _⟩ => ⟨S2x1x256x1024, .bf16⟩
  | .local _ .vmem, ⟨8, _⟩ => ⟨S1024x1024, .bf16⟩
  | .local _ .vmem, ⟨9, _⟩ => ⟨S1x1024, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S176x1024, .f32⟩
  | .local _ .vmem, ⟨15, _⟩ => ⟨S176x1024, .f32⟩
  | .local _ .vmem, ⟨16, _⟩ => ⟨S2x1x512x1024, .f32⟩
  | .local _ .vmem, ⟨17, _⟩ => ⟨S2x1x512x1024, .f32⟩
  | .local _ .vmem, ⟨18, _⟩ => ⟨S64x2816, .bf16⟩
  | .local _ .vmem, ⟨19, _⟩ => ⟨S64x2816, .bf16⟩
  | .local _ .vmem, ⟨20, _⟩ => ⟨S64x2816, .bf16⟩
  | .local _ .vmem, ⟨21, _⟩ => ⟨S64x2816, .bf16⟩
  | .local _ .vmem, ⟨22, _⟩ => ⟨S176x1024, .bf16⟩
  | .local _ .vmem, ⟨23, _⟩ => ⟨S176x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S176x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S8x2048x1024 : Shape := ⟨3, ![8, 2048, 1024]⟩
abbrev S1024 : Shape := ⟨1, ![1024]⟩
abbrev S1024x1024 : Shape := ⟨2, ![1024, 1024]⟩
abbrev S8x256x4x256 : Shape := ⟨4, ![8, 256, 4, 256]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x256 : Shape := ⟨4, ![8, 2048, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S2x4x2048x1024 : Shape := ⟨4, ![2, 4, 2048, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1024, .f32⟩
  | .hbm, ⟨3, _⟩ => ⟨S8x256x4x256, .f32⟩
  | .hbm, ⟨4, _⟩ => ⟨S8x256x4x256, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x4x256, .f32⟩
  | .hbm, ⟨28, _⟩ => ⟨S8x4x2048x256, .f32⟩
  | .hbm, ⟨29, _⟩ => ⟨S_, .f32⟩
  | .hbm, ⟨30, _⟩ => ⟨S8x4x2048x256, .f32⟩
  | .hbm, ⟨31, _⟩ => ⟨S8x4x2048x256, .f32⟩
  | .hbm, ⟨32, _⟩ => ⟨S_, .f32⟩
  | .hbm, ⟨33, _⟩ => ⟨S8x4x2048, .f32⟩
  | .hbm, ⟨34, _⟩ => ⟨S_, .f32⟩
  | .hbm, ⟨35, _⟩ => ⟨S8x4x2048, .f32⟩
  | .hbm, ⟨36, _⟩ => ⟨S8x4x2048, .f32⟩
  | .hbm, ⟨37, _⟩ => ⟨S8x4x2048x1, .f32⟩
  | .hbm, ⟨38, _⟩ => ⟨S8x4x2048x256, .f32⟩
  | .hbm, ⟨39, _⟩ => ⟨S8x4x2048x256, .f32⟩
  | .hbm, ⟨40, _⟩ => ⟨S8x4x2048x256, .f32⟩
  | .hbm, ⟨41, _⟩ => ⟨S_, .f32⟩
  | .hbm, ⟨42, _⟩ => ⟨S8x4x2048, .f32⟩
  | .hbm, ⟨43, _⟩ => ⟨S8x4x2048x1, .f32⟩
  | .hbm, ⟨44, _⟩ => ⟨S8x4x2048x256, .f32⟩
  | .hbm, ⟨45, _⟩ => ⟨S8x4x2048x256, .f32⟩
  | .hbm, ⟨46, _⟩ => ⟨S8x4x256x2048, .f32⟩
  | .hbm, ⟨47, _⟩ => ⟨S8x2048x4x256, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S_, .f32⟩
  | .hbm, ⟨58, _⟩ => ⟨S8x2048x1, .f32⟩
  | .hbm, ⟨59, _⟩ => ⟨S8x2048x1, .f32⟩
  | .hbm, ⟨60, _⟩ => ⟨S8x2048x1, .f32⟩
  | .hbm, ⟨61, _⟩ => ⟨S8x2048x1024, .f32⟩
  | .hbm, ⟨62, _⟩ => ⟨S8x2048x1024, .f32⟩
  | .hbm, ⟨63, _⟩ => ⟨S1x1x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S2x4x2048x1024, .f32⟩
  | .hbm, ⟨68, _⟩ => ⟨S1024x2816, .bf16⟩
  | .hbm, ⟨69, _⟩ => ⟨S1024x2816, .bf16⟩
  | .hbm, ⟨70, _⟩ => ⟨S2816x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kernel3.lean ====
abbrev S8x2048x1024 : Shape := ⟨3, ![8, 2048, 1024]⟩
abbrev S128x4x1024 : Shape := ⟨3, ![128, 4, 1024]⟩
abbrev S1024 : Shape := ⟨1, ![1024]⟩
abbrev S1024x2816 : Shape := ⟨2, ![1024, 2816]⟩
abbrev S2816x1024 : Shape := ⟨2, ![2816, 1024]⟩
abbrev S4x128x1024 : Shape := ⟨3, ![4, 128, 1024]⟩
abbrev S16384x1024 : Shape := ⟨2, ![16384, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x2816 : Shape := ⟨2, ![512, 2816]⟩
abbrev S128x1024 : Shape := ⟨2, ![128, 1024]⟩
abbrev S128x1x1024 : Shape := ⟨3, ![128, 1, 1024]⟩

abbrev nBuf : Space → Nat
  | .hbm => 17
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S128x4x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S4x128x1024, .f32⟩
  | .hbm, ⟨8, _⟩ => ⟨S16384x1024, .f32⟩
  | .hbm, ⟨9, _⟩ => ⟨S512x1024, .f32⟩
  | .hbm, ⟨10, _⟩ => ⟨S1x1024, .f32⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S16384x1024, .f32⟩
  | .hbm, ⟨16, _⟩ => ⟨S128x4x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S128x4x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .eq arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S8x2048x1024 : Shape := ⟨3, ![8, 2048, 1024]⟩
abbrev S128x4x1024 : Shape := ⟨3, ![128, 4, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩
abbrev S128x4 : Shape := ⟨2, ![128, 4]⟩
abbrev S128x4x1 : Shape := ⟨3, ![128, 4, 1]⟩
abbrev S128x4x2816 : Shape := ⟨3, ![128, 4, 2816]⟩

abbrev nBuf : Space → Nat
  | .hbm => 100
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S128x4x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x2816, .f32⟩
  | .hbm, ⟨24, _⟩ => ⟨S8x2048x2816, .f32⟩
  | .hbm, ⟨25, _⟩ => ⟨S8x2048x2816, .f32⟩
  | .hbm, ⟨26, _⟩ => ⟨S_, .f32⟩
  | .hbm, ⟨27, _⟩ => ⟨S8x2048x2816, .f32⟩
  | .hbm, ⟨28, _⟩ => ⟨S8x2048x2816, .f32⟩
  | .hbm, ⟨29, _⟩ => ⟨S_, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x1024, .f32⟩
  | .hbm, ⟨36, _⟩ => ⟨S8x2048x1024, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x1, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S16384x1024, .f32⟩
  | .hbm, ⟨54, _⟩ => ⟨S128x4x1024, .f32⟩
  | .hbm, ⟨55, _⟩ => ⟨S_, .f32⟩
  | .hbm, ⟨56, _⟩ => ⟨S128x4, .f32⟩
  | .hbm, ⟨57, _⟩ => ⟨S128x4x1, .f32⟩
  | .hbm, ⟨58, _⟩ => ⟨S_, .f32⟩
  | .hbm, ⟨59, _⟩ => ⟨S128x4x1, .f32⟩
  | .hbm, ⟨60, _⟩ => ⟨S128x4x1, .f32⟩
  | .hbm, ⟨61, _⟩ => ⟨S_, .f32⟩
  | .hbm, ⟨62, _⟩ => ⟨S128x4x1, .f32⟩
  | .hbm, ⟨63, _⟩ => ⟨S128x4x1, .f32⟩
  | .hbm, ⟨64, _⟩ => ⟨S128x4x1, .f32⟩
  | .hbm, ⟨65, _⟩ => ⟨S128x4x1024, .f32⟩
  | .hbm, ⟨66, _⟩ => ⟨S128x4x1024, .f32⟩
  | .hbm, ⟨67, _⟩ => ⟨S1x1x1024, .f32⟩
  | .hbm, ⟨68, _⟩ => ⟨S128x4x1024, .f32⟩
  | .hbm, ⟨69, _⟩ => ⟨S128x4x1024, .f32⟩
  | .hbm, ⟨70, _⟩ => ⟨S128x4x2816, .f32⟩
  | .hbm, ⟨71, _⟩ => ⟨S128x4x2816, .f32⟩
  | .hbm, ⟨72, _⟩ => ⟨S128x4x2816, .f32⟩
  | .hbm, ⟨73, _⟩ => ⟨S_, .f32⟩
  | .hbm, ⟨74, _⟩ => ⟨S128x4x2816, .f32⟩
  | .hbm, ⟨75, _⟩ => ⟨S128x4x2816, .f32⟩
  | .hbm, ⟨76, _⟩ => ⟨S_, .f32⟩
  | .hbm, ⟨77, _⟩ => ⟨S128x4x2816, .f32⟩
  | .hbm, ⟨78, _⟩ => ⟨S128x4x2816, .f32⟩
  | .hbm, ⟨79, _⟩ => ⟨S128x4x2816, .f32⟩
  | .hbm, ⟨80, _⟩ => ⟨S128x4x2816, .f32⟩
  | .hbm, ⟨81, _⟩ => ⟨S128x4x2816, .f32⟩
  | .hbm, ⟨82, _⟩ => ⟨S128x4x1024, .f32⟩
  | .hbm, ⟨83, _⟩ => ⟨S128x4x1024, .f32⟩
  | .hbm, ⟨84, _⟩ => ⟨S_, .f32⟩
  | .hbm, ⟨85, _⟩ => ⟨S128x4, .f32⟩
  | .hbm, ⟨86, _⟩ => ⟨S128x4x1, .f32⟩
  | .hbm, ⟨87, _⟩ => ⟨S_, .f32⟩
  | .hbm, ⟨88, _⟩ => ⟨S128x4x1, .f32⟩
  | .hbm, ⟨89, _⟩ => ⟨S128x4x1, .f32⟩
  | .hbm, ⟨90, _⟩ => ⟨S_, .f32⟩
  | .hbm, ⟨91, _⟩ => ⟨S128x4x1, .f32⟩
  | .hbm, ⟨92, _⟩ => ⟨S128x4x1, .f32⟩
  | .hbm, ⟨93, _⟩ => ⟨S128x4x1, .f32⟩
  | .hbm, ⟨94, _⟩ => ⟨S128x4x1024, .f32⟩
  | .hbm, ⟨95, _⟩ => ⟨S128x4x1024, .f32⟩
  | .hbm, ⟨96, _⟩ => ⟨S1x1x1024, .f32⟩
  | .hbm, ⟨97, _⟩ => ⟨S128x4x1024, .f32⟩
  | .hbm, ⟨98, _⟩ => ⟨S128x4x1024, .f32⟩
  | .hbm, ⟨99, _⟩ => ⟨S128x4x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_8 : Ref sig .tc := ⟨.hbm, 84, rfl⟩
abbrev main_v52 : Ref sig .tc := ⟨.hbm, 85, rfl⟩
abbrev main_v53 : Ref sig .tc := ⟨.hbm, 86, rfl⟩
abbrev main_cst_9 : Ref sig .tc := ⟨.hbm, 87, rfl⟩
abbrev main_v54 : Ref sig .tc := ⟨.hbm, 88, rfl⟩
abbrev main_v55 : Ref sig .tc := ⟨.hbm, 89, rfl⟩
abbrev main_cst_10 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩

abbrev nD : Nat := 1
abbrev τ : Topo := Topo.v7x

variable {F : FTy → Type} [FloatOps F]
-- ==== Kernel4.lean ====
abbrev S8x256x1024 : Shape := ⟨3, ![8, 256, 1024]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S2048x4x256 : Shape := ⟨3, ![2048, 4, 256]⟩
abbrev S512x1024 : Shape := ⟨2, ![512, 1024]⟩
abbrev S512x4x256 : Shape := ⟨3, ![512, 4, 256]⟩
abbrev S512 : Shape := ⟨1, ![512]⟩
abbrev S512x1 : Shape := ⟨2, ![512, 1]⟩
abbrev S512x256 : Shape := ⟨2, ![512, 256]⟩
abbrev S512x1x256 : Shape := ⟨3, ![512, 1, 256]⟩

abbrev nBuf : Space → Nat
  | .hbm => 12
  | .vmem => 13
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S2048x1024, .f32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S2048x1024, .bf16⟩
  | .hbm, ⟨9, _⟩ => ⟨S2048x1024, .bf16⟩
  | .hbm, ⟨10, _⟩ => ⟨S2048x4x256, .f32⟩
  | .hbm, ⟨11, _⟩ => ⟨S2048x4x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x4x256, .f32⟩
  | .local _ .vmem, ⟨10, _⟩ => ⟨S512x4x256, .f32⟩
  | .local _ .vmem, ⟨11, _⟩ => ⟨S512x4x256, .f32⟩
  | .local _ .vmem, ⟨12, _⟩ => ⟨S512x4x256, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x4x256 : Shape := ⟨4, ![8, 256, 4, 256]⟩
abbrev S2048x1024 : Shape := ⟨2, ![2048, 1024]⟩
abbrev S2048x4x256 : Shape := ⟨3, ![2048, 4, 256]⟩

abbrev nBuf : Space → Nat
  | .hbm => 30
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S8x256x4x256, .f32⟩
  | .hbm, ⟨22, _⟩ => ⟨S8x256x1024, .f32⟩
  | .hbm, ⟨23, _⟩ => ⟨S8x256x4x256, .f32⟩
  | .hbm, ⟨24, _⟩ => ⟨S2048x1024, .f32⟩
  | .hbm, ⟨25, _⟩ => ⟨S2048x1024, .bf16⟩
  | .hbm, ⟨26, _⟩ => ⟨S2048x1024, .f32⟩
  | .hbm, ⟨27, _⟩ => ⟨S2048x1024, .bf16⟩
  | .hbm, ⟨28, _⟩ => ⟨S2048x4x256, .f32⟩
  | .hbm, ⟨29, _⟩ => ⟨S2048x4x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel5.lean ====
abbrev S1024x2312 : Shape := ⟨2, ![1024, 2312]⟩
abbrev S2312x1024 : Shape := ⟨2, ![2312, 1024]⟩
abbrev S1024x2432 : Shape := ⟨2, ![1024, 2432]⟩
abbrev S256x1024 : Shape := ⟨2, ![256, 1024]⟩
abbrev S1024x256 : Shape := ⟨2, ![1024, 256]⟩
abbrev S8x1024 : Shape := ⟨2, ![8, 1024]⟩
abbrev S120x1024 : Shape := ⟨2, ![120, 1024]⟩
abbrev S128x1024 : Shape := ⟨2, ![128, 1024]⟩
abbrev S1024x128 : Shape := ⟨2, ![1024, 128]⟩

abbrev nBuf : Space → Nat
  | .hbm => 3
  | .vmem => 2
  | .smem => 0
  | _ => 0

abbrev bufTy : (tb : Table) → Fin (tcTables nBuf tb) → BufTy
  | .hbm, ⟨0, _⟩ => ⟨S1024x2312, .f32⟩
  | .hbm, ⟨1, _⟩ => ⟨S2312x1024, .f32⟩
  | .hbm, ⟨2, _⟩ => ⟨S1024x2432, .bf16⟩
  | .local _ .vmem, ⟨0, _⟩ => ⟨S2312x1024, .f32⟩
  | .local _ .vmem, ⟨1, _⟩ => ⟨S1024x2432, .bf16⟩
  | _, _ => ⟨S1024x2312, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2312x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference5Ideal.lean ====
abbrev S1024x2312 : Shape := ⟨2, ![1024, 2312]⟩
abbrev S1024x1536 : Shape := ⟨2, ![1024, 1536]⟩
abbrev S1024x512 : Shape := ⟨2, ![1024, 512]⟩
abbrev S_ : Shape := ⟨0, ![]⟩
abbrev S1024x256 : Shape := ⟨2, ![1024, 256]⟩
abbrev S1024x8 : Shape := ⟨2, ![1024, 8]⟩
abbrev S1024x120 : Shape := ⟨2, ![1024, 120]⟩
abbrev S1024x2432 : Shape := ⟨2, ![1024, 2432]⟩

abbrev nBuf : Space → Nat
  | .hbm => 12
  | .vmem => 0
  | .smem => 0
  | _ => 0

abbrev bufTy : (tb : Table) → Fin (tcTables nBuf tb) → BufTy
  | .hbm, ⟨0, _⟩ => ⟨S1024x2312, .f32⟩
  | .hbm, ⟨1, _⟩ => ⟨S1024x1536, .f32⟩
  | .hbm, ⟨2, _⟩ => ⟨S1024x512, .f32⟩
  | .hbm, ⟨3, _⟩ => ⟨S_, .f32⟩
  | .hbm, ⟨4, _⟩ => ⟨S1024x512, .f32⟩
  | .hbm, ⟨5, _⟩ => ⟨S1024x512, .f32⟩
  | .hbm, ⟨6, _⟩ => ⟨S1024x256, .f32⟩
  | .hbm, ⟨7, _⟩ => ⟨S1024x8, .f32⟩
  | .hbm, ⟨8, _⟩ => ⟨S_, .f32⟩
  | .hbm, ⟨9, _⟩ => ⟨S1024x120, .f32⟩
  | .hbm, ⟨10, _⟩ => ⟨S1024x2432, .f32⟩
  | .hbm, ⟨11, _⟩ => ⟨S1024x2432, .bf16⟩
  | _, _ => ⟨S1024x2312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Common.lean ====
module

public import Idealize.ShloMosaic.Lib.Pointwise
public import Idealize.ShloMosaic.Lib.IdealHost
public import Idealize.ShloMosaic.Lib.ReduceAll
public import Idealize.ShloMosaic.Lib.Affine

@[expose] public section

set_option maxRecDepth 16384

noncomputable section

namespace Cert.Layer

open Idealize.ShloMosaic

/-! ## Values that are real numbers -/

/-- The value is a real number: neither infinity. -/
def IsR (x : EReal) : Prop := ∃ r : ℝ, x = (r : EReal)

theorem IsR.coe (r : ℝ) : IsR (r : EReal) := ⟨r, rfl⟩

theorem IsR.zero : IsR 0 := ⟨0, rfl⟩

theorem IsR.add {x y : EReal} : IsR x → IsR y → IsR (x + y)
  | ⟨a, ha⟩, ⟨b, hb⟩ => ⟨a + b, by rw [ha, hb, EReal.coe_add]⟩

theorem IsR.mul {x y : EReal} : IsR x → IsR y → IsR (x * y)
  | ⟨a, ha⟩, ⟨b, hb⟩ => ⟨a * b, by rw [ha, hb, EReal.coe_mul]⟩

theorem IsR.sub {x y : EReal} : IsR x → IsR y → IsR (x - y)
  | ⟨a, ha⟩, ⟨b, hb⟩ => ⟨a - b, by rw [ha, hb, EReal.coe_sub]⟩

theorem IsR.neg {x : EReal} : IsR x → IsR (-x)
  | ⟨a, ha⟩ => ⟨-a, by rw [ha, EReal.coe_neg]⟩

theorem IsR.sum {ι : Type*} (s : Finset ι) {f : ι → EReal} (h : ∀ i, IsR (f i)) : IsR (∑ i ∈ s, f i) := by
  classical
  induction s using Finset.induction with
  | empty => simpa using IsR.zero
  | insert a s ha ih => rw [Finset.sum_insert ha]; exact (h a).add ih

theorem IsR.max {x y : EReal} (hx : IsR x) (hy : IsR y) : IsR (Max.max x y) := by
  rcases max_choice x y with h | h <;> rw [h] <;> assumption

theorem IsR.exp {x : EReal} : IsR x → IsR (Ideal.exp x)
  | ⟨a, ha⟩ => ⟨Real.exp a, by rw [ha]; rfl⟩

theorem exp_coe (r : ℝ) : Ideal.exp (r : EReal) = (Real.exp r : EReal) := rfl

theorem IsR.div {x y : EReal} (hx : IsR x) (hy : IsR y) (h : y ≠ 0) : IsR (Ideal.div x y) := by
  obtain ⟨a, rfl⟩ := hx
  obtain ⟨b, rfl⟩ := hy
  exact ⟨a * b⁻¹, by rw [Ideal.div, if_neg h, EReal.coe_mul, EReal.coe_inv]⟩

/-- A sum of real numbers, as a real number. -/
theorem coe_sum {ι : Type*} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- A real factor may be moved out of a sum of real numbers. -/
theorem sum_mul {ι : Type*} (s : Finset ι) {f : ι → EReal} {c : EReal} (h : ∀ i, IsR (f i)) (hc : IsR c) :
    (∑ i ∈ s, f i) * c = ∑ i ∈ s, f i * c := by
  obtain ⟨c, rfl⟩ := hc
  choose r hr using h
  simp only [hr, ← coe_sum, ← EReal.coe_mul, Finset.sum_mul]

theorem mul_sum {ι : Type*} (s : Finset ι) {f : ι → EReal} {c : EReal} (h : ∀ i, IsR (f i)) (hc : IsR c) :
    c * (∑ i ∈ s, f i) = ∑ i ∈ s, c * f i := by
  simp only [mul_comm c]; exact sum_mul s h hc

/-- The largest of finitely many, at least one, real numbers is real. -/
theorem IsR.fold_max {ι : Type*} [Fintype ι] [Nonempty ι] {f : ι → EReal} (h : ∀ i, IsR (f i)) :
    IsR (Finset.univ.fold Max.max ⊥ f) := by
  classical
  suffices H : ∀ s : Finset ι, s.Nonempty → IsR (s.fold Max.max ⊥ f) from H _ Finset.univ_nonempty
  intro s
  induction s using Finset.induction with
  | empty => intro h; exact absurd h (by simp)
  | insert a s ha ih =>
    intro _
    rw [Finset.fold_insert ha]
    rcases s.eq_empty_or_nonempty with rfl | hs
    · simpa using h a
    · exact (h a).max (ih hs)

/-- The sum of the exponentials of real numbers, at least one of them, is a real number other than zero. -/
theorem sum_exp_ne {ι : Type*} [Fintype ι] [Nonempty ι] {f : ι → EReal} (h : ∀ i, IsR (f i)) :
    ∑ i, Ideal.exp (f i) ≠ 0 := by
  choose r hr using h
  simp only [hr, exp_coe, ← coe_sum]
  have : 0 < ∑ i, Real.exp (r i) := Finset.sum_pos (fun i _ => Real.exp_pos _) Finset.univ_nonempty
  exact fun h => this.ne' (EReal.coe_eq_zero.mp h)

/-- The root-mean-square norm of one row, at one column. -/
def nrm (x : Fin 1024 → EReal) (g : Fin 1024 → EReal) (k : Fin 1024) : EReal :=
  x k * Ideal.rsqrt (Ideal.div (∑ j, x j * x j) (Ideal.ofBits FTy.f32 1149239296#32) + Ideal.ofBits FTy.f32 897988541#32) * g k

theorem width_word : Ideal.ofBits FTy.f32 1149239296#32 = ((1024 : ℝ) : EReal) := by
  simp [Ideal.ofBits, Ideal.ieee, -EReal.coe_mul]; norm_num

theorem eps_word : ∃ e : ℝ, 0 < e ∧ Ideal.ofBits FTy.f32 897988541#32 = (e : EReal) := by
  refine ⟨_, ?_, by simp [Ideal.ofBits, Ideal.ieee, -EReal.coe_mul]; rfl⟩
  norm_num

/-- The reciprocal root of a mean of squares of real numbers and a small positive number is real. -/
theorem rsqrt_real {s : ℝ} {e n : ℝ} (hs : 0 ≤ s) (he : 0 < e) (hn : 0 < n) :
    IsR (Ideal.rsqrt (Ideal.div (s : EReal) (n : EReal) + (e : EReal))) := by
  have hn0 : (n : EReal) ≠ 0 := fun h => hn.ne' (EReal.coe_eq_zero.mp h)
  rw [Ideal.div, if_neg hn0, ← EReal.coe_inv, ← EReal.coe_mul, ← EReal.coe_add]
  have : 0 < s * n⁻¹ + e := by positivity
  exact ⟨(Real.sqrt (s * n⁻¹ + e))⁻¹, (if_neg this.le.not_gt).trans (if_neg this.ne')⟩

theorem IsR.nrm {x g : Fin 1024 → EReal} (hx : ∀ k, IsR (x k)) (hg : ∀ k, IsR (g k)) (k : Fin 1024) : IsR (nrm x g k) := by
  obtain ⟨e, he, hw⟩ := eps_word
  choose r hr using hx
  refine (IsR.mul ⟨r k, hr k⟩ ?_).mul (hg k)
  simp only [hr, ← EReal.coe_mul, ← coe_sum, hw, width_word]
  exact rsqrt_real (Finset.sum_nonneg fun i _ => mul_self_nonneg _) he (by norm_num)

theorem inf_word : Ideal.ofBits FTy.f32 0x7F800000#32 = ⊤ := by
  simp [Ideal.ofBits, Ideal.ieee]

theorem neg_inf_word : Ideal.ofBits FTy.f32 0xFF800000#32 = ⊥ := by
  simp [Ideal.ofBits, Ideal.ieee]

/-- An entry whose magnitude is below infinity is real. -/
theorem isR_of_lt {x : EReal} (h : Ideal.cmp .olt (Max.max x (-x)) (Ideal.ofBits FTy.f32 0x7F800000#32) = 1#1) : IsR x := by
  rw [inf_word] at h
  induction x with
  | bot => simp [Ideal.cmp] at h
  | top => simp [Ideal.cmp] at h
  | coe r => exact ⟨r, rfl⟩

/-- An array whose entries all have a magnitude below infinity has real entries. -/
theorem isR_of_all {s u : Shape} {axes : List (Fin s.rank)} [Subsingleton u.Idx] (x : FVec Ideal s .f32) (b : FVec Ideal s .f32) (hb : ∀ i, b i = Ideal.ofBits FTy.f32 0x7F800000#32)
    (init : IVec u 1) (h : s.ReducesTo axes u) (hu : 0 < u.numel) (j : u.Idx)
    (e : Host.reduce IntOp.andi (cmpf .olt (Host.absf x) b) init h hu j = 1#1) (i : s.Idx) : IsR (x i) := by
  have := Host.reduce_andi_all _ init h hu j e i
  refine isR_of_lt ?_
  rw [← hb i]; exact this

end Cert.Layer
-- ==== Proof.MixMath.lean ====
module

public import proofs.«01_k».proof.Proof.Common

@[expose] public section

noncomputable section

namespace Cert.Mix

open Idealize.ShloMosaic Cert.Layer

/-! ## The layer's functions of one sequence -/

/-- Entry `j` of token `t`'s input projection. -/
def pr (x : Fin 4 → Fin 1024 → EReal) (g : Fin 1024 → EReal) (w : Fin 1024 → Fin 2312 → EReal) (t : Fin 4) (j : Fin 2312) : EReal :=
  ∑ k, nrm (x t) g k * w k j

/-- The convolution's input at step `s`: the three kept steps, then the four tokens. -/
def up (sc : Fin 3 → Fin 1024 → EReal) (p : Fin 4 → Fin 2312 → EReal) (s : ℕ) (c : Fin 1024) : EReal :=
  if h : s < 3 then sc ⟨s, h⟩ c else if h : s - 3 < 4 then p ⟨s - 3, h⟩ ⟨512 + c.val, by omega⟩ else 0

/-- The convolution before its activation. -/
def cv (sc : Fin 3 → Fin 1024 → EReal) (p : Fin 4 → Fin 2312 → EReal) (cw : Fin 4 → Fin 1024 → EReal) (cb : Fin 1024 → EReal) (t : Fin 4) (c : Fin 1024) : EReal :=
  cb c + up sc p t.val c * cw 0 c + up sc p (t.val + 1) c * cw 1 c + up sc p (t.val + 2) c * cw 2 c + up sc p (t.val + 3) c * cw 3 c

/-- `y` times its logistic. -/
def act (y : EReal) : EReal := y * Ideal.logistic y

/-- The positive part of `y` and the logarithm's correction. -/
def splus (y : EReal) : EReal := Max.max y 0 + Ideal.log1p (Ideal.exp (-(Max.max y (-y))))

/-- The step size of token `t` in head `h`. -/
def dt (p : Fin 4 → Fin 2312 → EReal) (db : Fin 8 → EReal) (t : Fin 4) (h : Fin 8) : EReal :=
  splus (p t ⟨1536 + h.val, by omega⟩ + db h)

/-- The running sum of the decays. -/
def cs (d : Fin 4 → Fin 8 → EReal) (al : Fin 8 → EReal) (t : Fin 4) (h : Fin 8) : EReal :=
  ∑ s : Fin 4, if s ≤ t then d s h * -Ideal.exp (al h) else 0

/-- The state after the four tokens, head `h`, value `q`, key `n`. -/
def state (h0 : EReal) (z : Fin 4 → Fin 1024 → EReal) (d : Fin 4 → Fin 8 → EReal) (al : Fin 8 → EReal) (h : Fin 8) (q : Fin 64) (n : Fin 128) : EReal :=
  Ideal.exp (cs d al 3 h) * h0 + ∑ t, z t ⟨h.val * 64 + q.val, by omega⟩ * d t h * Ideal.exp (cs d al 3 h - cs d al t h)
    * z t ⟨512 + h.val / 4 * 128 + n.val, by omega⟩

end Cert.Mix
-- ==== Proof.MixBlock.lean ====
module

public import proofs.«01_k».proof.Proof.MixMath
public import proofs.«01_k».proof.Proof.Gen.KernelIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

namespace Cert.Mix

open Idealize.ShloMosaic Idealize.ShloMosaic.TcCoe Idealize.SL.Sem
open Cert.KernelIdeal Cert.KernelIdeal.Gen Cert.Layer Cert.KernelIdeal.Facts

/-- The row of token `t` of sequence `b` in a grid point's 64 rows. -/
def row (t : Fin 4) (b : Fin 16) : Fin 64 := ⟨t.val * 16 + b.val, by omega⟩

/-! ## The projections of a grid point's rows -/

theorem four (t : Fin 4) : t = 0 ∨ t = 1 ∨ t = 2 ∨ t = 3 := by omega

/-- Four slabs of 16 rows, one after another. -/
theorem slabs_apply (v0 v1 v2 v3 : FVec Ideal S16x1024 .f32) (t : Fin 4) (b : Fin 16) (k : Fin 1024) :
    concatenate S64x1024 0 [⟨S16x1024, v0⟩, ⟨S16x1024, v1⟩, ⟨S16x1024, v2⟩, ⟨S16x1024, v3⟩] concatenates_S16x1024_S16x1024_S16x1024_S16x1024_S64x1024_d0 (ix2 (row t b) k)
      = (![v0, v1, v2, v3] t) (ix2 b k) := by
  pointwise [row]
  rcases four t with rfl | rfl | rfl | rfl
  · rw [dif_pos (by omega)]
    exact congrArg (fun i => v0 (ix2 i k)) (Fin.ext (by show (0 : Fin 4).val * 16 + b.val = b.val; omega))
  · rw [dif_neg (by omega), dif_pos (by omega)]
    exact congrArg (fun i => v1 (ix2 i k)) (Fin.ext (by show (1 : Fin 4).val * 16 + b.val - 16 = b.val; omega))
  · rw [dif_neg (by omega), dif_neg (by omega), dif_pos (by omega)]
    exact congrArg (fun i => v2 (ix2 i k)) (Fin.ext (by show (2 : Fin 4).val * 16 + b.val - 16 - 16 = b.val; omega))
  · rw [dif_neg (by omega), dif_neg (by omega), dif_neg (by omega)]
    exact congrArg (fun i => v3 (ix2 i k)) (Fin.ext (by show (3 : Fin 4).val * 16 + b.val - 16 - 16 - 16 = b.val; omega))

theorem pay1_apply (v0 v2 v4 v6 : Vec Ideal S16x1x1024 .f32) (t : Fin 4) (b : Fin 16) (k : Fin 1024) :
    k0_pay1 v0 v2 v4 v6 (ix2 (row t b) k) = (![v0, v2, v4, v6] t) (ix3 b 0 k) := by
  unfold k0_pay1
  refine (slabs_apply _ _ _ _ t b k).trans ?_
  rcases four t with rfl | rfl | rfl | rfl <;> pointwise

theorem pay2_apply (v0 v2 v4 v6 : Vec Ideal S16x1x1024 .f32) (g : Vec Ideal S1x1024 .f32) (t : Fin 4) (b : Fin 16) (k : Fin 1024) :
    k0_pay2 v0 v2 v4 v6 g (ix2 (row t b) k) = nrm (fun k => (![v0, v2, v4, v6] t) (ix3 b 0 k)) (fun k => g (ix2 0 k)) k := by
  pointwise [k0_pay2, pay1_apply]
  rfl

theorem pay6_apply (h : FVec Ideal S64x1024 .bf16) (w : Vec Ideal S1024x128 .bf16) (r : Fin 64) (j : Fin 128) :
    k0_pay6 h w (ix2 r j) = ∑ k, h (ix2 r k) * w (ix2 k j) := by pointwise [k0_pay6]

theorem pay7_apply (h : FVec Ideal S64x1024 .bf16) (w : Vec Ideal S1024x128 .bf16) (r : Fin 64) (j : Fin 128) :
    k0_pay7 h w (ix2 r j) = ∑ k, h (ix2 r k) * w (ix2 k j) := by pointwise [k0_pay7]

theorem slt_eight : ∀ j : Fin 128, IntOp.cmpi CmpIPredicate.slt (BitVec.ofNat 32 j.val) 8#32 = if j.val < 8 then 1#1 else 0#1 := by decide

theorem pay8_apply (h : FVec Ideal S64x1024 .bf16) (w : Vec Ideal S1024x128 .bf16) (db : Vec Ideal S1x128 .f32) (r : Fin 64) (j : Fin 128) :
    k0_pay8 h w db (ix2 r j) = if j.val < 8 then splus ((∑ k, h (ix2 r k) * w (ix2 k j)) + db (ix2 0 j)) else 0 := by
  unfold splus
  pointwise [k0_pay8]
  rw [slt_eight, zero_sub]
  by_cases h : j.val < 8
  · rw [if_pos h, if_pos h]; rfl
  · rw [if_neg h, if_neg h]; rfl

variable (x0 : Vec Ideal S16x4x1024 .f32) (x1 : Vec Ideal S3x16x1024 .f32) (x2 : Vec Ideal S16x512x128 .f32) (x3 x4 : Vec Ideal S16x2x64x128 .f32)
  (x5 : Vec Ideal S1x1024 .f32) (x6 : Vec Ideal S1024x2432 .bf16) (x7 : Vec Ideal S4x1024 .f32) (x8 : Vec Ideal S1x1024 .f32) (x9 x10 : Vec Ideal S1x128 .f32)
  (x11 x12 : Vec Ideal S1x512 .f32) (x13 : Vec Ideal S512x1 .f32) (x14 : Vec Ideal S1024x1024 .bf16) (x15 : Vec Ideal S1x1024 .f32)

/-- The normed rows. -/
theorem normed_rows (t : Fin 4) (b : Fin 16) (k : Fin 1024) :
    k0_pay387 x0 x1 x2 x3 x4 x5 x6 x7 x8 x9 x10 x11 x12 x13 x14 x15 (ix2 (row t b) k) = nrm (fun k => x0 (ix3 b t k)) (fun k => x5 (ix2 0 k)) k := by
  unfold k0_pay387
  rw [pay2_apply]
  congr 1
  · funext k
    fin_cases t <;> pointwise
  · funext k
    pointwise

/-- The convolution's input rows. -/
theorem u_rows (w : Fin 1024 → Fin 2312 → EReal) (hw : ∀ k (c : Fin 1024), x6 (ix2 k ⟨512 + c.val, by omega⟩) = w k ⟨512 + c.val, by omega⟩) (t : Fin 4) (b : Fin 16) (c : Fin 1024) :
    k0_pay388 x0 x1 x2 x3 x4 x5 x6 x7 x8 x9 x10 x11 x12 x13 x14 x15 (ix2 (row t b) c) = pr (fun t k => x0 (ix3 b t k)) (fun k => x5 (ix2 0 k)) w t ⟨512 + c.val, by omega⟩ := by
  have h : k0_pay388 x0 x1 x2 x3 x4 x5 x6 x7 x8 x9 x10 x11 x12 x13 x14 x15 (ix2 (row t b) c) = ∑ k, k0_pay387 x0 x1 x2 x3 x4 x5 x6 x7 x8 x9 x10 x11 x12 x13 x14 x15 (ix2 (row t b) k) * x6 (ix2 k ⟨512 + c.val, by omega⟩) := by
    pointwise [k0_pay388, k0_pay4]
    rfl
  rw [h]
  unfold pr
  exact Finset.sum_congr rfl fun k _ => congrArg₂ (· * ·) (normed_rows ..) (hw k c)

/-- The four rows of a slab. -/
theorem slab0 (u : FVec Ideal S64x1024 .f32) (b : Fin 16) (c : Fin 1024) : k0_pay56 u (ix2 b c) = u (ix2 (row 0 b) c) := by pointwise [k0_pay56, row]
theorem slab1 (u : FVec Ideal S64x1024 .f32) (b : Fin 16) (c : Fin 1024) : k0_pay57 u (ix2 b c) = u (ix2 (row 1 b) c) := by pointwise [k0_pay57, row]; try rfl
theorem slab2 (u : FVec Ideal S64x1024 .f32) (b : Fin 16) (c : Fin 1024) : k0_pay58 u (ix2 b c) = u (ix2 (row 2 b) c) := by pointwise [k0_pay58, row]; try rfl
theorem slab3 (u : FVec Ideal S64x1024 .f32) (b : Fin 16) (c : Fin 1024) : k0_pay59 u (ix2 b c) = u (ix2 (row 3 b) c) := by pointwise [k0_pay59, row]; try rfl

/-- The kept steps' entry. -/
def keptAt (w : Fin 1024 → Fin 2312 → EReal) (y : S3x16x1024.Idx) : EReal :=
  pr (fun t k => x0 (ix3 (y 1 : Fin 16) t k)) (fun k => x5 (ix2 0 k)) w ⟨(y 0).val + 1, by have := (y 0).isLt; change (y 0).val < 3 at this; omega⟩ ⟨512 + (y 2).val, by have := (y 2).isLt; change (y 2).val < 1024 at this; omega⟩

theorem emb44 (b : Fin 16) (c : Fin 1024) : r0_44.emb (ix3 0 b c) = ix3 0 b c := by
  funext a; refine Fin.ext ?_
  match a with | ⟨0, _⟩ => rfl | ⟨1, _⟩ => exact (show 0 + 1 * b.val = b.val by omega) | ⟨2, _⟩ => exact (show 0 + 1 * c.val = c.val by omega)
theorem emb45 (b : Fin 16) (c : Fin 1024) : r0_45.emb (ix3 0 b c) = ix3 1 b c := by
  funext a; refine Fin.ext ?_
  match a with | ⟨0, _⟩ => rfl | ⟨1, _⟩ => exact (show 0 + 1 * b.val = b.val by omega) | ⟨2, _⟩ => exact (show 0 + 1 * c.val = c.val by omega)
theorem emb46 (b : Fin 16) (c : Fin 1024) : r0_46.emb (ix3 0 b c) = ix3 2 b c := by
  funext a; refine Fin.ext ?_
  match a with | ⟨0, _⟩ => rfl | ⟨1, _⟩ => exact (show 0 + 1 * b.val = b.val by omega) | ⟨2, _⟩ => exact (show 0 + 1 * c.val = c.val by omega)

/-- The kept steps. -/
theorem out18_apply (w : Fin 1024 → Fin 2312 → EReal) (hw : ∀ k (c : Fin 1024), x6 (ix2 k ⟨512 + c.val, by omega⟩) = w k ⟨512 + c.val, by omega⟩) (y : S3x16x1024.Idx) :
    out0_18 x0 x1 x2 x3 x4 x5 x6 x7 x8 x9 x10 x11 x12 x13 x14 x15 y = keptAt x0 x5 w y := by
  unfold out0_18
  refine View.canon_apply_of_pieces (Val := Elt Ideal) (e := .f32) (keptAt x0 x5 w) _ ?_ y (cover0_18 _ _ _ y)
  have h (t : Fin 4) (b : Fin 16) (c : Fin 1024) := u_rows x0 x1 x2 x3 x4 x5 x6 x7 x8 x9 x10 x11 x12 x13 x14 x15 w hw t b c
  simp only [List.forall_mem_cons, List.not_mem_nil, false_imp_iff, implies_true, and_true]
  refine ⟨fun x => ?_, fun x => ?_, fun x => ?_⟩
  · obtain ⟨u, b, c, rfl⟩ : ∃ (u : Fin 1) (b : Fin 16) (c : Fin 1024), x = ix3 u b c := ⟨x 0, x 1, x 2, eq_ix3 x⟩
    obtain rfl : u = 0 := Subsingleton.elim _ _
    rw [show r0_46.emb (ix3 0 b c) = _ from emb46 b c]
    pointwise [k0_pay65, k0_pay405, slab3, h]
    rfl
  · obtain ⟨u, b, c, rfl⟩ : ∃ (u : Fin 1) (b : Fin 16) (c : Fin 1024), x = ix3 u b c := ⟨x 0, x 1, x 2, eq_ix3 x⟩
    obtain rfl : u = 0 := Subsingleton.elim _ _
    rw [show r0_45.emb (ix3 0 b c) = _ from emb45 b c]
    pointwise [k0_pay64, k0_pay404, slab2, h]
    rfl
  · obtain ⟨u, b, c, rfl⟩ : ∃ (u : Fin 1) (b : Fin 16) (c : Fin 1024), x = ix3 u b c := ⟨x 0, x 1, x 2, eq_ix3 x⟩
    obtain rfl : u = 0 := Subsingleton.elim _ _
    rw [show r0_44.emb (ix3 0 b c) = _ from emb44 b c]
    pointwise [k0_pay63, k0_pay403, slab1, h]
    rfl

/-- The rows after the convolution. -/
theorem conv_rows (w : Fin 1024 → Fin 2312 → EReal) (hw : ∀ k (c : Fin 1024), x6 (ix2 k ⟨512 + c.val, by omega⟩) = w k ⟨512 + c.val, by omega⟩) (t : Fin 4) (b : Fin 16) (c : Fin 1024) :
    k0_pay66 (k0_pay402 x0 x1 x2 x3 x4 x5 x6 x7 x8 x9 x10 x11 x12 x13 x14 x15) (k0_pay403 x0 x1 x2 x3 x4 x5 x6 x7 x8 x9 x10 x11 x12 x13 x14 x15) (k0_pay404 x0 x1 x2 x3 x4 x5 x6 x7 x8 x9 x10 x11 x12 x13 x14 x15) (k0_pay405 x0 x1 x2 x3 x4 x5 x6 x7 x8 x9 x10 x11 x12 x13 x14 x15) (k0_pay406 x0 x1 x2 x3 x4 x5 x6 x7 x8 x9 x10 x11 x12 x13 x14 x15) (k0_pay407 x0 x1 x2 x3 x4 x5 x6 x7 x8 x9 x10 x11 x12 x13 x14 x15) (k0_pay408 x0 x1 x2 x3 x4 x5 x6 x7 x8 x9 x10 x11 x12 x13 x14 x15) (View.ld x8 r0_4) (View.ld x7 r0_47) (View.ld x7 r0_48) (View.ld x7 r0_49) (View.ld x7 r0_50) (ix2 (row t b) c)
      = act (cv (fun i c => x1 (ix3 i b c)) (pr (fun t k => x0 (ix3 b t k)) (fun k => x5 (ix2 0 k)) w) (fun i c => x7 (ix2 i c)) (fun c => x8 (ix2 0 c)) t c) := by
  unfold k0_pay66
  refine (slabs_apply _ _ _ _ t b c).trans ?_
  have h (t : Fin 4) := u_rows x0 x1 x2 x3 x4 x5 x6 x7 x8 x9 x10 x11 x12 x13 x14 x15 w hw t b c
  rcases four t with rfl | rfl | rfl | rfl
  · pointwise [k0_pay406, k0_pay60, k0_pay54, k0_pay55, slab0, h]
    rfl
  · pointwise [k0_pay407, k0_pay61, k0_pay54, k0_pay55, k0_pay401, k0_pay402, k0_pay403, slab0, slab1, h]
    rfl
  · pointwise [k0_pay408, k0_pay62, k0_pay54, k0_pay55, k0_pay401, k0_pay402, k0_pay403, k0_pay404, slab0, slab1, slab2, h]
    rfl
  · pointwise [k0_pay402, k0_pay403, k0_pay404, k0_pay405, slab0, slab1, slab2, slab3, h]
    rfl

end Cert.Mix
-- ==== Proof.MixLane.lean ====
module

public import proofs.«01_k».proof.Proof.MixBlock
public import proofs.«01_k».proof.Proof.Gen.KernelIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

namespace Cert.Mix

open Idealize.ShloMosaic Idealize.ShloMosaic.TcCoe Idealize.SL.Sem
open Cert.KernelIdeal Cert.KernelIdeal.Gen Cert.Layer Cert.KernelIdeal.Facts

/-- The remainder of `r` by sixteen, as the kernel computes it. -/
def md (r : BitVec 32) : BitVec 32 :=
  Scalar.select (IntOp.andi (IntOp.xori (IntOp.cmpi .slt (IntOp.remsi .vector r 16#32) 0#32) (Scalar.cmpi .slt 16#32 0#32)) (IntOp.cmpi .ne (IntOp.remsi .vector r 16#32) 0#32))
    (IntOp.addi (IntOp.remsi .vector r 16#32) 16#32) (IntOp.remsi .vector r 16#32)

/-- The quotient of `r` by sixteen, as the kernel computes it. -/
def qt (r : BitVec 32) : BitVec 32 :=
  Scalar.select (IntOp.andi (IntOp.cmpi .ne (IntOp.subi (BitVec.setWidth 32 (IntOp.cmpi .sgt r 0#32)) (BitVec.setWidth 32 (IntOp.cmpi .slt r 0#32)))
      (Scalar.subi (Scalar.extui (Scalar.cmpi .sgt 16#32 0#32)) (Scalar.extui (Scalar.cmpi .slt 16#32 0#32)))) (IntOp.cmpi .ne (IntOp.remsi .vector r 16#32) 0#32))
    (IntOp.subi (IntOp.divsi .vector r 16#32) 1#32) (IntOp.divsi .vector r 16#32)

/-- The one-hot of sequence `n`: its token `l - 124`'s row goes to lane `l`. -/
def sel (n : BitVec 32) : FVec Ideal S128x128 .bf16 := fun i =>
  FloatOps.sitofp (F := Ideal) .f32 (BitVec.setWidth 32 (IntOp.andi (IntOp.andi (IntOp.cmpi .eq (md (BitVec.ofNat 32 (i 0).val)) n) (IntOp.cmpi .slt (BitVec.ofNat 32 (i 0).val) 64#32))
    (IntOp.cmpi .eq (IntOp.subi (BitVec.ofNat 32 (i 1).val) 124#32) (qt (BitVec.ofNat 32 (i 0).val)))))

/-- The new columns of one sequence, spread to the window's lanes. -/
def spread (kn : FVec Ideal S128x128 .f32) (s : FVec Ideal S128x128 .bf16) : FVec Ideal S128x128 .f32 :=
  addf (matmul dot_S128x128_S128x128_S128x128_1_0_0_1_n_n none (truncf .bf16 kn bitsLt_bf16_f32) s (constant S128x128 .f32 0x00000000#32))
    (matmul dot_S128x128_S128x128_S128x128_1_0_0_1_n_n none (truncf .bf16 (subf kn kn) bitsLt_bf16_f32) s (constant S128x128 .f32 0x00000000#32))
variable (x0 : Vec Ideal S16x4x1024 .f32) (x1 : Vec Ideal S3x16x1024 .f32) (x2 : Vec Ideal S16x512x128 .f32) (x3 x4 : Vec Ideal S16x2x64x128 .f32)
  (x5 : Vec Ideal S1x1024 .f32) (x6 : Vec Ideal S1024x2432 .bf16) (x7 : Vec Ideal S4x1024 .f32) (x8 : Vec Ideal S1x1024 .f32) (x9 x10 : Vec Ideal S1x128 .f32)
  (x11 x12 : Vec Ideal S1x512 .f32) (x13 : Vec Ideal S512x1 .f32) (x14 : Vec Ideal S1024x1024 .bf16) (x15 : Vec Ideal S1x1024 .f32)

set_option maxHeartbeats 4000000 in
/-- The sixteen one-hots the kernel builds. -/
theorem sels : ∀ p ∈ [(k0_pay415 x0 x1 x2 x3 x4 x5 x6 x7 x8 x9 x10 x11 x12 x13 x14 x15, (0 : Fin 16)), (k0_pay416 x0 x1 x2 x3 x4 x5 x6 x7 x8 x9 x10 x11 x12 x13 x14 x15, (1 : Fin 16)), (k0_pay417 x0 x1 x2 x3 x4 x5 x6 x7 x8 x9 x10 x11 x12 x13 x14 x15, (2 : Fin 16)), (k0_pay418 x0 x1 x2 x3 x4 x5 x6 x7 x8 x9 x10 x11 x12 x13 x14 x15, (3 : Fin 16)), (k0_pay419 x0 x1 x2 x3 x4 x5 x6 x7 x8 x9 x10 x11 x12 x13 x14 x15, (4 : Fin 16)), (k0_pay420 x0 x1 x2 x3 x4 x5 x6 x7 x8 x9 x10 x11 x12 x13 x14 x15, (5 : Fin 16)), (k0_pay421 x0 x1 x2 x3 x4 x5 x6 x7 x8 x9 x10 x11 x12 x13 x14 x15, (6 : Fin 16)), (k0_pay422 x0 x1 x2 x3 x4 x5 x6 x7 x8 x9 x10 x11 x12 x13 x14 x15, (7 : Fin 16)), (k0_pay423 x0 x1 x2 x3 x4 x5 x6 x7 x8 x9 x10 x11 x12 x13 x14 x15, (8 : Fin 16)), (k0_pay424 x0 x1 x2 x3 x4 x5 x6 x7 x8 x9 x10 x11 x12 x13 x14 x15, (9 : Fin 16)), (k0_pay425 x0 x1 x2 x3 x4 x5 x6 x7 x8 x9 x10 x11 x12 x13 x14 x15, (10 : Fin 16)), (k0_pay426 x0 x1 x2 x3 x4 x5 x6 x7 x8 x9 x10 x11 x12 x13 x14 x15, (11 : Fin 16)), (k0_pay427 x0 x1 x2 x3 x4 x5 x6 x7 x8 x9 x10 x11 x12 x13 x14 x15, (12 : Fin 16)), (k0_pay428 x0 x1 x2 x3 x4 x5 x6 x7 x8 x9 x10 x11 x12 x13 x14 x15, (13 : Fin 16)), (k0_pay429 x0 x1 x2 x3 x4 x5 x6 x7 x8 x9 x10 x11 x12 x13 x14 x15, (14 : Fin 16)), (k0_pay430 x0 x1 x2 x3 x4 x5 x6 x7 x8 x9 x10 x11 x12 x13 x14 x15, (15 : Fin 16))], p.1 = sel (BitVec.ofNat 32 p.2.val) := by
  simp only [List.forall_mem_cons, List.not_mem_nil, false_imp_iff, implies_true, and_true]
  refine ⟨?_, ?_, ?_, ?_, ?_, ?_, ?_, ?_, ?_, ?_, ?_, ?_, ?_, ?_, ?_, ?_⟩
  all_goals
    funext i
    obtain ⟨r, l, rfl⟩ : ∃ r l, i = ix2 r l := ⟨_, _, eq_ix2 i⟩
    pointwise [k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137]
    rfl

theorem md_eq : ∀ (r : Fin 128) (b : Fin 16), IntOp.cmpi .eq (md (BitVec.ofNat 32 r.val)) (BitVec.ofNat 32 b.val) = if r.val % 16 = b.val then 1#1 else 0#1 := by decide +kernel
theorem slt_rows : ∀ r : Fin 128, IntOp.cmpi .slt (BitVec.ofNat 32 r.val) 64#32 = if r.val < 64 then 1#1 else 0#1 := by decide
theorem qt_eq : ∀ r l : Fin 128, IntOp.cmpi .eq (IntOp.subi (BitVec.ofNat 32 l.val) 124#32) (qt (BitVec.ofNat 32 r.val)) = if l.val = 124 + r.val / 16 then 1#1 else 0#1 := by decide +kernel

theorem sel_apply (b : Fin 16) (r l : Fin 128) :
    sel (BitVec.ofNat 32 b.val) (ix2 r l) = if r.val % 16 = b.val ∧ r.val < 64 ∧ l.val = 124 + r.val / 16 then 1 else 0 := by
  show FloatOps.sitofp (F := Ideal) .f32 (BitVec.setWidth 32 (IntOp.andi (IntOp.andi (IntOp.cmpi .eq (md (BitVec.ofNat 32 r.val)) (BitVec.ofNat 32 b.val)) (IntOp.cmpi .slt (BitVec.ofNat 32 r.val) 64#32))
    (IntOp.cmpi .eq (IntOp.subi (BitVec.ofNat 32 l.val) 124#32) (qt (BitVec.ofNat 32 r.val))))) = _
  rw [md_eq, slt_rows, qt_eq]
  have one : FloatOps.sitofp (F := Ideal) .f32 1#32 = 1 := by simp [FloatOps.sitofp]
  have zero : FloatOps.sitofp (F := Ideal) .f32 0#32 = 0 := by simp [FloatOps.sitofp]
  by_cases h1 : r.val % 16 = b.val <;> by_cases h2 : r.val < 64 <;> by_cases h3 : l.val = 124 + r.val / 16 <;>
    simp only [h1, h2, h3, if_true, if_false, and_true, true_and, and_false, false_and] <;> first | exact one | exact zero

/-- A sequence's token, at its lane. -/
theorem spread_apply (kn : FVec Ideal S128x128 .f32) (b : Fin 16) (j l : Fin 128) (hl : 124 ≤ l.val) (f : Fin 4 → EReal)
    (hf : ∀ t : Fin 4, kn (ix2 j ⟨t.val * 16 + b.val, by omega⟩) = f t) (hr : ∀ t, IsR (f t)) :
    (∑ r, kn (ix2 j r) * sel (BitVec.ofNat 32 b.val) (ix2 r l) + ∑ r, (kn (ix2 j r) - kn (ix2 j r)) * sel (BitVec.ofNat 32 b.val) (ix2 r l)) = f ⟨l.val - 124, by omega⟩ := by
  have key (v : Fin 128 → EReal) : ∑ r, v r * sel (BitVec.ofNat 32 b.val) (ix2 r l) = v ⟨(l.val - 124) * 16 + b.val, by omega⟩ := by
    rw [Finset.sum_eq_single (⟨(l.val - 124) * 16 + b.val, by omega⟩ : Fin 128)]
    · rw [sel_apply, if_pos (by refine ⟨?_, ?_, ?_⟩ <;> dsimp only <;> omega), mul_one]
    · intro r _ hne
      rw [sel_apply, if_neg, mul_zero]
      rintro ⟨h1, h2, h3⟩
      exact hne (Fin.ext (by dsimp only; omega))
    · exact fun h => absurd (Finset.mem_univ _) h
  rw [key (fun r => kn (ix2 j r)), key (fun r => kn (ix2 j r) - kn (ix2 j r)), hf ⟨l.val - 124, by omega⟩]
  obtain ⟨x, hx⟩ := hr ⟨l.val - 124, by omega⟩
  rw [hx, ← EReal.coe_sub, sub_self, EReal.coe_zero, add_zero]

/-- The new keys, one column a row. -/
theorem keys_cols (w : Fin 1024 → Fin 2312 → EReal) (hw : ∀ k (j : Fin 128), x6 (ix2 k ⟨2048 + j.val, by omega⟩) = w k ⟨2056 + j.val, by omega⟩) (t : Fin 4) (b : Fin 16) (j : Fin 128) :
    k0_pay393 x0 x1 x2 x3 x4 x5 x6 x7 x8 x9 x10 x11 x12 x13 x14 x15 (ix2 j ⟨t.val * 16 + b.val, by omega⟩) = pr (fun t k => x0 (ix3 b t k)) (fun k => x5 (ix2 0 k)) w t ⟨2056 + j.val, by omega⟩ := by
  have h : k0_pay393 x0 x1 x2 x3 x4 x5 x6 x7 x8 x9 x10 x11 x12 x13 x14 x15 (ix2 j ⟨t.val * 16 + b.val, by omega⟩) = ∑ k, k0_pay387 x0 x1 x2 x3 x4 x5 x6 x7 x8 x9 x10 x11 x12 x13 x14 x15 (ix2 (row t b) k) * x6 (ix2 k ⟨2048 + j.val, by omega⟩) := by
    pointwise [k0_pay393, k0_pay9, pay6_apply]
    rw [dif_pos (by omega)]
    rfl
  rw [h]
  unfold pr
  exact Finset.sum_congr rfl fun k _ => congrArg₂ (· * ·) (normed_rows ..) (hw k j)

/-- The new values, one column a row. -/
theorem vals_cols (w : Fin 1024 → Fin 2312 → EReal) (hw : ∀ k (j : Fin 128), x6 (ix2 k ⟨2176 + j.val, by omega⟩) = w k ⟨2184 + j.val, by omega⟩) (t : Fin 4) (b : Fin 16) (j : Fin 128) :
    k0_pay394 x0 x1 x2 x3 x4 x5 x6 x7 x8 x9 x10 x11 x12 x13 x14 x15 (ix2 j ⟨t.val * 16 + b.val, by omega⟩) = pr (fun t k => x0 (ix3 b t k)) (fun k => x5 (ix2 0 k)) w t ⟨2184 + j.val, by omega⟩ := by
  have h : k0_pay394 x0 x1 x2 x3 x4 x5 x6 x7 x8 x9 x10 x11 x12 x13 x14 x15 (ix2 j ⟨t.val * 16 + b.val, by omega⟩) = ∑ k, k0_pay387 x0 x1 x2 x3 x4 x5 x6 x7 x8 x9 x10 x11 x12 x13 x14 x15 (ix2 (row t b) k) * x6 (ix2 k ⟨2176 + j.val, by omega⟩) := by
    pointwise [k0_pay394, k0_pay10, pay7_apply]
    rw [dif_pos (by omega)]
    rfl
  rw [h]
  unfold pr
  exact Finset.sum_congr rfl fun k _ => congrArg₂ (· * ·) (normed_rows ..) (hw k j)

end Cert.Mix
-- ==== Proof.MixWindow.lean ====
module

public import proofs.«01_k».proof.Proof.MixLane
public import proofs.«01_k».proof.Proof.Gen.KernelIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

namespace Cert.Mix

open Idealize.ShloMosaic Idealize.ShloMosaic.TcCoe Idealize.SL.Sem
open Cert.KernelIdeal Cert.KernelIdeal.Gen Cert.Layer Cert.KernelIdeal.Facts

variable (x0 : Vec Ideal S16x4x1024 .f32) (x1 : Vec Ideal S3x16x1024 .f32) (x2 : Vec Ideal S16x512x128 .f32) (x3 x4 : Vec Ideal S16x2x64x128 .f32)
  (x5 : Vec Ideal S1x1024 .f32) (x6 : Vec Ideal S1024x2432 .bf16) (x7 : Vec Ideal S4x1024 .f32) (x8 : Vec Ideal S1x1024 .f32) (x9 x10 : Vec Ideal S1x128 .f32)
  (x11 x12 : Vec Ideal S1x512 .f32) (x13 : Vec Ideal S512x1 .f32) (x14 : Vec Ideal S1024x1024 .bf16) (x15 : Vec Ideal S1x1024 .f32)

/-- A new column at its lane, whichever the sequence. -/
def AtLane (n : Fin 16 → Fin 4 → Fin 128 → EReal) (p : FVec Ideal S128x128 .f32 × Fin 16) : Prop :=
  ∀ (j l : Fin 128) (hl : 124 ≤ l.val), p.1 (ix2 j l) = n p.2 ⟨l.val - 124, by omega⟩ j

set_option maxHeartbeats 4000000 in
/-- The new keys at their lanes. -/
theorem keys_lanes (n : Fin 16 → Fin 4 → Fin 128 → EReal) (hn : ∀ b t j, k0_pay393 x0 x1 x2 x3 x4 x5 x6 x7 x8 x9 x10 x11 x12 x13 x14 x15 (ix2 j ⟨t.val * 16 + b.val, by omega⟩) = n b t j) (hr : ∀ b t j, IsR (n b t j)) :
    ∀ p ∈ [(k0_pay431 x0 x1 x2 x3 x4 x5 x6 x7 x8 x9 x10 x11 x12 x13 x14 x15, (0 : Fin 16)), (k0_pay432 x0 x1 x2 x3 x4 x5 x6 x7 x8 x9 x10 x11 x12 x13 x14 x15, (1 : Fin 16)), (k0_pay433 x0 x1 x2 x3 x4 x5 x6 x7 x8 x9 x10 x11 x12 x13 x14 x15, (2 : Fin 16)), (k0_pay434 x0 x1 x2 x3 x4 x5 x6 x7 x8 x9 x10 x11 x12 x13 x14 x15, (3 : Fin 16)), (k0_pay435 x0 x1 x2 x3 x4 x5 x6 x7 x8 x9 x10 x11 x12 x13 x14 x15, (4 : Fin 16)), (k0_pay436 x0 x1 x2 x3 x4 x5 x6 x7 x8 x9 x10 x11 x12 x13 x14 x15, (5 : Fin 16)), (k0_pay437 x0 x1 x2 x3 x4 x5 x6 x7 x8 x9 x10 x11 x12 x13 x14 x15, (6 : Fin 16)), (k0_pay438 x0 x1 x2 x3 x4 x5 x6 x7 x8 x9 x10 x11 x12 x13 x14 x15, (7 : Fin 16)), (k0_pay439 x0 x1 x2 x3 x4 x5 x6 x7 x8 x9 x10 x11 x12 x13 x14 x15, (8 : Fin 16)), (k0_pay440 x0 x1 x2 x3 x4 x5 x6 x7 x8 x9 x10 x11 x12 x13 x14 x15, (9 : Fin 16)), (k0_pay441 x0 x1 x2 x3 x4 x5 x6 x7 x8 x9 x10 x11 x12 x13 x14 x15, (10 : Fin 16)), (k0_pay442 x0 x1 x2 x3 x4 x5 x6 x7 x8 x9 x10 x11 x12 x13 x14 x15, (11 : Fin 16)), (k0_pay443 x0 x1 x2 x3 x4 x5 x6 x7 x8 x9 x10 x11 x12 x13 x14 x15, (12 : Fin 16)), (k0_pay444 x0 x1 x2 x3 x4 x5 x6 x7 x8 x9 x10 x11 x12 x13 x14 x15, (13 : Fin 16)), (k0_pay445 x0 x1 x2 x3 x4 x5 x6 x7 x8 x9 x10 x11 x12 x13 x14 x15, (14 : Fin 16)), (k0_pay446 x0 x1 x2 x3 x4 x5 x6 x7 x8 x9 x10 x11 x12 x13 x14 x15, (15 : Fin 16))], AtLane n p := by
  have s := sels x0 x1 x2 x3 x4 x5 x6 x7 x8 x9 x10 x11 x12 x13 x14 x15
  simp only [List.forall_mem_cons, List.not_mem_nil, false_imp_iff, implies_true, and_true] at s ⊢
  obtain ⟨s0, s1, s2, s3, s4, s5, s6, s7, s8, s9, s10, s11, s12, s13, s14, s15⟩ := s
  refine ⟨?_, ?_, ?_, ?_, ?_, ?_, ?_, ?_, ?_, ?_, ?_, ?_, ?_, ?_, ?_, ?_⟩ <;> intro j l hl
  all_goals
    pointwise [k0_pay431, k0_pay432, k0_pay433, k0_pay434, k0_pay435, k0_pay436, k0_pay437, k0_pay438, k0_pay439, k0_pay440, k0_pay441, k0_pay442, k0_pay443, k0_pay444, k0_pay445, k0_pay446, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160]
    simp only [s0, s1, s2, s3, s4, s5, s6, s7, s8, s9, s10, s11, s12, s13, s14, s15]
    exact spread_apply _ _ j l hl (fun t => n _ t j) (fun t => hn _ t j) fun t => hr _ t j

set_option maxHeartbeats 4000000 in
/-- The new values at their lanes. -/
theorem vals_lanes (n : Fin 16 → Fin 4 → Fin 128 → EReal) (hn : ∀ b t j, k0_pay394 x0 x1 x2 x3 x4 x5 x6 x7 x8 x9 x10 x11 x12 x13 x14 x15 (ix2 j ⟨t.val * 16 + b.val, by omega⟩) = n b t j) (hr : ∀ b t j, IsR (n b t j)) :
    ∀ p ∈ [(k0_pay447 x0 x1 x2 x3 x4 x5 x6 x7 x8 x9 x10 x11 x12 x13 x14 x15, (0 : Fin 16)), (k0_pay448 x0 x1 x2 x3 x4 x5 x6 x7 x8 x9 x10 x11 x12 x13 x14 x15, (1 : Fin 16)), (k0_pay449 x0 x1 x2 x3 x4 x5 x6 x7 x8 x9 x10 x11 x12 x13 x14 x15, (2 : Fin 16)), (k0_pay450 x0 x1 x2 x3 x4 x5 x6 x7 x8 x9 x10 x11 x12 x13 x14 x15, (3 : Fin 16)), (k0_pay451 x0 x1 x2 x3 x4 x5 x6 x7 x8 x9 x10 x11 x12 x13 x14 x15, (4 : Fin 16)), (k0_pay452 x0 x1 x2 x3 x4 x5 x6 x7 x8 x9 x10 x11 x12 x13 x14 x15, (5 : Fin 16)), (k0_pay453 x0 x1 x2 x3 x4 x5 x6 x7 x8 x9 x10 x11 x12 x13 x14 x15, (6 : Fin 16)), (k0_pay454 x0 x1 x2 x3 x4 x5 x6 x7 x8 x9 x10 x11 x12 x13 x14 x15, (7 : Fin 16)), (k0_pay455 x0 x1 x2 x3 x4 x5 x6 x7 x8 x9 x10 x11 x12 x13 x14 x15, (8 : Fin 16)), (k0_pay456 x0 x1 x2 x3 x4 x5 x6 x7 x8 x9 x10 x11 x12 x13 x14 x15, (9 : Fin 16)), (k0_pay457 x0 x1 x2 x3 x4 x5 x6 x7 x8 x9 x10 x11 x12 x13 x14 x15, (10 : Fin 16)), (k0_pay458 x0 x1 x2 x3 x4 x5 x6 x7 x8 x9 x10 x11 x12 x13 x14 x15, (11 : Fin 16)), (k0_pay459 x0 x1 x2 x3 x4 x5 x6 x7 x8 x9 x10 x11 x12 x13 x14 x15, (12 : Fin 16)), (k0_pay460 x0 x1 x2 x3 x4 x5 x6 x7 x8 x9 x10 x11 x12 x13 x14 x15, (13 : Fin 16)), (k0_pay461 x0 x1 x2 x3 x4 x5 x6 x7 x8 x9 x10 x11 x12 x13 x14 x15, (14 : Fin 16)), (k0_pay462 x0 x1 x2 x3 x4 x5 x6 x7 x8 x9 x10 x11 x12 x13 x14 x15, (15 : Fin 16))], AtLane n p := by
  have s := sels x0 x1 x2 x3 x4 x5 x6 x7 x8 x9 x10 x11 x12 x13 x14 x15
  simp only [List.forall_mem_cons, List.not_mem_nil, false_imp_iff, implies_true, and_true] at s ⊢
  obtain ⟨s0, s1, s2, s3, s4, s5, s6, s7, s8, s9, s10, s11, s12, s13, s14, s15⟩ := s
  refine ⟨?_, ?_, ?_, ?_, ?_, ?_, ?_, ?_, ?_, ?_, ?_, ?_, ?_, ?_, ?_, ?_⟩ <;> intro j l hl
  all_goals
    pointwise [k0_pay447, k0_pay448, k0_pay449, k0_pay450, k0_pay451, k0_pay452, k0_pay453, k0_pay454, k0_pay455, k0_pay456, k0_pay457, k0_pay458, k0_pay459, k0_pay460, k0_pay461, k0_pay462, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189]
    simp only [s0, s1, s2, s3, s4, s5, s6, s7, s8, s9, s10, s11, s12, s13, s14, s15]
    exact spread_apply _ _ j l hl (fun t => n _ t j) (fun t => hn _ t j) fun t => hr _ t j

/-- A window moved on by four: the old lanes, then the new columns. -/
def slideAt (c : Vec Ideal S16x2x64x128 .f32) (n : Fin 16 → Fin 4 → Fin 128 → EReal) (y : S16x2x64x128.Idx) : EReal :=
  if h : (y 3).val < 124 then c (ix4 (y 0 : Fin 16) (y 1 : Fin 2) (y 2 : Fin 64) ⟨(y 3).val + 4, by omega⟩)
  else n (y 0 : Fin 16) ⟨(y 3).val - 124, by have := (y 3).isLt; change (y 3).val < 128 at this; omega⟩
    ⟨(y 1).val * 64 + (y 2).val, by have := (y 1).isLt; change (y 1).val < 2 at this; have := (y 2).isLt; change (y 2).val < 64 at this; omega⟩

theorem slt_lanes : ∀ l : Fin 128, IntOp.cmpi CmpIPredicate.slt (BitVec.ofNat 32 l.val) 124#32 = if l.val < 124 then 1#1 else 0#1 := by decide

/-- One lane of a moved window. -/
theorem lane_close (c : Vec Ideal S16x2x64x128 .f32) (n : Fin 16 → Fin 4 → Fin 128 → EReal) (b : Fin 16) (g : Fin 2) (d : Fin 64) (l : Fin 128) (m : Fin 128) (hm : m.val = (l.val + 128 - 124) % 128) (a : EReal)
    (ha : ∀ h : 124 ≤ l.val, ∃ j : Fin 128, j.val = g.val * 64 + d.val ∧ a = n b ⟨l.val - 124, by omega⟩ j) :
    Scalar.select (IntOp.cmpi CmpIPredicate.slt (BitVec.ofNat 32 l.val) 124#32) (c (ix4 b g d m)) a = slideAt c n (ix4 b g d l) := by
  rw [slt_lanes]
  unfold slideAt
  by_cases h : l.val < 124
  · rw [if_pos h, dif_pos (show (ix4 b g d l 3).val < 124 from h)]
    exact congrArg (fun m => c (ix4 b g d m)) (Fin.ext (by rw [hm]; show _ = l.val + 4; omega))
  · rw [if_neg h, dif_neg (show ¬ (ix4 b g d l 3).val < 124 from h)]
    obtain ⟨j, hj, e⟩ := ha (by omega)
    exact e.trans (congrArg (n b _) (Fin.ext hj))

set_option maxHeartbeats 4000000 in
/-- The key window moved on. -/
theorem out19_apply (n : Fin 16 → Fin 4 → Fin 128 → EReal) (hn : ∀ b t j, k0_pay393 x0 x1 x2 x3 x4 x5 x6 x7 x8 x9 x10 x11 x12 x13 x14 x15 (ix2 j ⟨t.val * 16 + b.val, by omega⟩) = n b t j) (hr : ∀ b t j, IsR (n b t j)) (y : S16x2x64x128.Idx) :
    out0_19 x0 x1 x2 x3 x4 x5 x6 x7 x8 x9 x10 x11 x12 x13 x14 x15 y = slideAt x3 n y := by
  unfold out0_19
  refine View.canon_apply_of_pieces (Val := Elt Ideal) (e := .f32) (slideAt x3 n) _ ?_ y (cover0_19 _ _ _ _ _ _ _ _ _ _ _ _ _ _ _ _ _ _ _ _ _ _ _ _ _ _ _ _ _ _ _ _ y)
  have s := keys_lanes x0 x1 x2 x3 x4 x5 x6 x7 x8 x9 x10 x11 x12 x13 x14 x15 n hn hr
  simp only [List.forall_mem_cons, List.not_mem_nil, false_imp_iff, implies_true, and_true, AtLane] at s ⊢
  obtain ⟨n0, n1, n2, n3, n4, n5, n6, n7, n8, n9, n10, n11, n12, n13, n14, n15⟩ := s
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> intro x
  all_goals
    obtain ⟨u, v, d, l, rfl⟩ : ∃ (u v : Fin 1) (d : Fin 64) (l : Fin 128), x = ix4 u v d l := ⟨x 0, x 1, x 2, x 3, eq_ix4 x⟩
    obtain rfl : u = 0 := Subsingleton.elim _ _
    obtain rfl : v = 0 := Subsingleton.elim _ _
    show _ = View.ld (Val := Elt Ideal) (e' := .f32) (slideAt x3 n) _ _
    pointwise [k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay488]
    refine lane_close x3 n _ _ d l _ rfl _ fun h => ?_
    simp only [n0, n1, n2, n3, n4, n5, n6, n7, n8, n9, n10, n11, n12, n13, n14, n15, h]
    refine ⟨_, ?_, rfl⟩
    first | rfl | exact (Nat.zero_add _).symm | (dsimp only; omega)

set_option maxHeartbeats 4000000 in
/-- The value window moved on. -/
theorem out20_apply (n : Fin 16 → Fin 4 → Fin 128 → EReal) (hn : ∀ b t j, k0_pay394 x0 x1 x2 x3 x4 x5 x6 x7 x8 x9 x10 x11 x12 x13 x14 x15 (ix2 j ⟨t.val * 16 + b.val, by omega⟩) = n b t j) (hr : ∀ b t j, IsR (n b t j)) (y : S16x2x64x128.Idx) :
    out0_20 x0 x1 x2 x3 x4 x5 x6 x7 x8 x9 x10 x11 x12 x13 x14 x15 y = slideAt x4 n y := by
  unfold out0_20
  refine View.canon_apply_of_pieces (Val := Elt Ideal) (e := .f32) (slideAt x4 n) _ ?_ y (cover0_20 _ _ _ _ _ _ _ _ _ _ _ _ _ _ _ _ _ _ _ _ _ _ _ _ _ _ _ _ _ _ _ _ y)
  have s := vals_lanes x0 x1 x2 x3 x4 x5 x6 x7 x8 x9 x10 x11 x12 x13 x14 x15 n hn hr
  simp only [List.forall_mem_cons, List.not_mem_nil, false_imp_iff, implies_true, and_true, AtLane] at s ⊢
  obtain ⟨n0, n1, n2, n3, n4, n5, n6, n7, n8, n9, n10, n11, n12, n13, n14, n15⟩ := s
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> intro x
  all_goals
    obtain ⟨u, v, d, l, rfl⟩ : ∃ (u v : Fin 1) (d : Fin 64) (l : Fin 128), x = ix4 u v d l := ⟨x 0, x 1, x 2, x 3, eq_ix4 x⟩
    obtain rfl : u = 0 := Subsingleton.elim _ _
    obtain rfl : v = 0 := Subsingleton.elim _ _
    show _ = View.ld (Val := Elt Ideal) (e' := .f32) (slideAt x4 n) _ _
    pointwise [k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay488]
    refine lane_close x4 n _ _ d l _ rfl _ fun h => ?_
    simp only [n0, n1, n2, n3, n4, n5, n6, n7, n8, n9, n10, n11, n12, n13, n14, n15, h]
    refine ⟨_, ?_, rfl⟩
    first | rfl | exact (Nat.zero_add _).symm | (dsimp only; omega)
end Cert.Mix
-- ==== Proof.MixFan.lean ====
module

public import proofs.«01_k».proof.Proof.MixBlock
public import proofs.«01_k».proof.Proof.Gen.KernelIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

namespace Cert.Mix

open Idealize.ShloMosaic Idealize.ShloMosaic.TcCoe Idealize.SL.Sem
open Cert.KernelIdeal Cert.KernelIdeal.Gen Cert.Layer Cert.KernelIdeal.Facts

/-! ## The per-head rows, spread over the heads' lanes -/

/-- The one-hot that spreads a head's number over its 64 lanes. -/
def hot : FVec Ideal S128x512 .f32 :=
  sitofp .f32 (extui 32 (cmpi .eq (iota .tc S128x512 32 [0] iota_S128x512_d0_w32) (shrsi (iota .tc S128x512 32 [1] iota_S128x512_d1_w32) (broadcast S128x512 6#32))) natLt_1_32)

/-- Rows of per-head numbers, spread. -/
def fan (M : FVec Ideal S304x128 .f32) : FVec Ideal S304x512 .f32 :=
  matmul dot_S304x256_S256x512_S304x512_1_0_0_1_n_n none
    (concatenate S304x256 1 [⟨S304x128, truncf .bf16 M bitsLt_bf16_f32⟩, ⟨S304x128, truncf .bf16 (subf M (extf .f32 (truncf .bf16 M bitsLt_bf16_f32) bitsLt_bf16_f32)) bitsLt_bf16_f32⟩] concatenates_S304x128_S304x128_S304x256_d1)
    (concatenate S256x512 0 [⟨S128x512, truncf .bf16 hot bitsLt_bf16_f32⟩, ⟨S128x512, truncf .bf16 hot bitsLt_bf16_f32⟩] concatenates_S128x512_S128x512_S256x512_d0)
    (constant S304x512 .f32 0x00000000#32)

theorem heads : ∀ c : Fin 512, IntOp.shrsi .vector (BitVec.ofNat 32 c.val) 6#32 = BitVec.ofNat 32 (c.val / 64) := by decide +kernel
theorem head_eq : ∀ (k : Fin 128) (q : Fin 8), IntOp.cmpi .eq (BitVec.ofNat 32 k.val) (BitVec.ofNat 32 q.val) = if k.val = q.val then 1#1 else 0#1 := by decide +kernel

theorem hot_apply (k : Fin 128) (c : Fin 512) : hot (ix2 k c) = if k.val = c.val / 64 then 1 else 0 := by
  pointwise [hot]
  rw [heads, head_eq k ⟨c.val / 64, by omega⟩]
  by_cases h : k.val = c.val / 64
  · rw [if_pos h, if_pos h]; simp [FloatOps.sitofp]
  · rw [if_neg h, if_neg h]; simp [FloatOps.sitofp]

theorem fan_apply (M : FVec Ideal S304x128 .f32) (i : Fin 304) (c : Fin 512) (hM : IsR (M (ix2 i ⟨c.val / 64, by omega⟩))) :
    fan M (ix2 i c) = M (ix2 i ⟨c.val / 64, by omega⟩) := by
  have key (v : Fin 128 → EReal) : ∑ k, v k * hot (ix2 k c) = v ⟨c.val / 64, by omega⟩ := by
    rw [Finset.sum_eq_single (⟨c.val / 64, by omega⟩ : Fin 128)]
    · rw [hot_apply, if_pos rfl, mul_one]
    · intro k _ hne
      rw [hot_apply, if_neg (fun h => hne (Fin.ext h)), mul_zero]
    · exact fun h => absurd (Finset.mem_univ _) h
  have h : fan M (ix2 i c) = ∑ k : Fin (128 + 128), (if h : k.val < 128 then M (ix2 i ⟨k.val, h⟩) * hot (ix2 ⟨k.val, h⟩ c) else (M (ix2 i ⟨k.val - 128, by omega⟩) - M (ix2 i ⟨k.val - 128, by omega⟩)) * hot (ix2 ⟨k.val - 128, by omega⟩ c)) := by
    pointwise [fan]
  rw [h, Fin.sum_univ_add]
  obtain ⟨x, hx⟩ := hM
  have e := key fun k => M (ix2 i k) - M (ix2 i k)
  simp only [Fin.val_castAdd, Fin.val_natAdd, Fin.is_lt, dif_pos, Fin.eta]
  rw [key (fun k => M (ix2 i k))]
  refine (congrArg (M (ix2 i ⟨c.val / 64, by omega⟩) + ·) ((Finset.sum_congr rfl fun k _ => ?_).trans e)).trans ?_
  · rw [dif_neg (by omega)]
    simp only [Nat.add_sub_cancel_left, Fin.eta]
  · show _ + (_ - _) = _
    rw [hx, ← EReal.coe_sub, sub_self, EReal.coe_zero, add_zero]

/-- The steps times the rates. -/
def rates (D : FVec Ideal S64x128 .f32) (A : FVec Ideal S1x128 .f32) : FVec Ideal S64x128 .f32 :=
  mulf D (broadcastTo S64x128 (subf (broadcast S1x128 (Scalar.ofBits .f32 0x00000000#32)) A) broadcasts_S1x128_S64x128)

/-- A slab of 16 rows. -/
def slab (v : FVec Ideal S64x128 .f32) : Fin 4 → FVec Ideal S16x128 .f32 :=
  ![extractStridedSlice S16x128 ![0, 0] v slices_S64x128_o0_0_S16x128, extractStridedSlice S16x128 ![16, 0] v slices_S64x128_o16_0_S16x128,
    extractStridedSlice S16x128 ![32, 0] v slices_S64x128_o32_0_S16x128, extractStridedSlice S16x128 ![48, 0] v slices_S64x128_o48_0_S16x128]

theorem slab_apply (v : FVec Ideal S64x128 .f32) (t : Fin 4) (b : Fin 16) (k : Fin 128) : slab v t (ix2 b k) = v (ix2 (row t b) k) := by
  rcases four t with rfl | rfl | rfl | rfl <;> pointwise [slab, row] <;> rfl

/-- The running sums of the slabs. -/
def run (v : FVec Ideal S64x128 .f32) : Fin 4 → FVec Ideal S16x128 .f32 :=
  ![slab v 0, addf (slab v 0) (slab v 1), addf (addf (slab v 0) (slab v 1)) (slab v 2), addf (addf (addf (slab v 0) (slab v 1)) (slab v 2)) (slab v 3)]

theorem run_apply (v : FVec Ideal S64x128 .f32) (t : Fin 4) (b : Fin 16) (k : Fin 128) :
    run v t (ix2 b k) = ∑ s : Fin 4, if s ≤ t then v (ix2 (row s b) k) else 0 := by
  simp only [← slab_apply]
  rcases four t with rfl | rfl | rfl | rfl <;> rw [Fin.sum_univ_four] <;> simp [run] <;> rfl

/-- Four slabs, one after another. -/
def stack (f : Fin 4 → FVec Ideal S16x128 .f32) : FVec Ideal S64x128 .f32 :=
  concatenate S64x128 0 [⟨S16x128, f 0⟩, ⟨S16x128, f 1⟩, ⟨S16x128, f 2⟩, ⟨S16x128, f 3⟩] concatenates_S16x128_S16x128_S16x128_S16x128_S64x128_d0

theorem stack_apply (f : Fin 4 → FVec Ideal S16x128 .f32) (t : Fin 4) (b : Fin 16) (k : Fin 128) : stack f (ix2 (row t b) k) = f t (ix2 b k) := by
  have e (t : Fin 4) (r : Fin 16) (h : r.val = b.val) : f t (ix2 r k) = f t (ix2 b k) := congrArg (fun i => f t (ix2 i k)) (Fin.ext h)
  pointwise [stack, row]
  rcases four t with rfl | rfl | rfl | rfl
  · rw [dif_pos (by omega)]
    exact e _ _ (by show (0 : Fin 4).val * 16 + b.val = b.val; omega)
  · rw [dif_neg (by omega), dif_pos (by omega)]
    exact e _ _ (by show (1 : Fin 4).val * 16 + b.val - 16 = b.val; omega)
  · rw [dif_neg (by omega), dif_neg (by omega), dif_pos (by omega)]
    exact e _ _ (by show (2 : Fin 4).val * 16 + b.val - 16 - 16 = b.val; omega)
  · rw [dif_neg (by omega), dif_neg (by omega), dif_neg (by omega)]
    exact e _ _ (by show (3 : Fin 4).val * 16 + b.val - 16 - 16 - 16 = b.val; omega)

/-- The table of per-head rows is one product. -/
theorem pay71_fan (D : FVec Ideal S64x128 .f32) (A : FVec Ideal S1x128 .f32) : ∃ (v : FVec Ideal S64x128 .f32) (u1 u2 u3 u4 u5 u6 : FVec Ideal S16x128 .f32),
    k0_pay71 D A = fan (concatenate S304x128 0 [⟨S64x128, D⟩, ⟨S64x128, v⟩, ⟨S64x128, exp (subf (stack fun _ => run (rates D A) 3) (stack (run (rates D A))))⟩, ⟨S16x128, exp (run (rates D A) 3)⟩,
      ⟨S16x128, u1⟩, ⟨S16x128, u2⟩, ⟨S16x128, u3⟩, ⟨S16x128, u4⟩, ⟨S16x128, u5⟩, ⟨S16x128, u6⟩] concatenates_S64x128_S64x128_S64x128_S16x128_S16x128_S16x128_S16x128_S16x128_S16x128_S16x128_S304x128_d0) :=
  ⟨_, _, _, _, _, _, _, rfl⟩

end Cert.Mix
-- ==== Proof.MixState.lean ====
module

public import proofs.«01_k».proof.Proof.MixFan
public import proofs.«01_k».proof.Proof.Gen.KernelIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

namespace Cert.Mix

open Idealize.ShloMosaic Idealize.ShloMosaic.TcCoe Idealize.SL.Sem
open Cert.KernelIdeal Cert.KernelIdeal.Gen Cert.Layer Cert.KernelIdeal.Facts

/-! ## Sums of decays are at most zero -/

theorem exp_nonneg (x : EReal) : 0 ≤ Ideal.exp x := by
  induction x using EReal.rec with
  | bot => exact le_refl _
  | top => exact le_top
  | coe r => exact EReal.coe_nonneg.2 (Real.exp_pos r).le

theorem exp_isR {x : EReal} (h : x ≠ ⊤) : IsR (Ideal.exp x) := by
  induction x using EReal.rec with
  | bot => exact IsR.zero
  | top => exact absurd rfl h
  | coe r => exact ⟨_, rfl⟩

theorem sub_ne_top {a b : EReal} (h : a ≤ b) (ha : a ≠ ⊤) : a - b ≠ ⊤ := by
  induction b using EReal.rec with
  | bot => rw [le_bot_iff.1 h]; decide
  | top => intro e; simp at e
  | coe r =>
    induction a using EReal.rec with
    | bot => intro e; simp at e
    | top => exact absurd rfl ha
    | coe s => rw [← EReal.coe_sub]; exact EReal.coe_ne_top _

theorem splus_real {x : EReal} (h : IsR x) : IsR (splus x) ∧ 0 ≤ splus x := by
  obtain ⟨r, rfl⟩ := h
  obtain ⟨m, hm⟩ : IsR (Max.max (r : EReal) (-r)) := (IsR.coe r).max (IsR.coe r).neg
  have hl : Ideal.log1p (Ideal.exp (-(Max.max (r : EReal) (-r)))) = ((Real.log (1 + Real.exp (-m)) : ℝ) : EReal) := by
    rw [hm, ← EReal.coe_neg, exp_coe]
    show Ideal.log (1 + _) = _
    rw [← EReal.coe_one, ← EReal.coe_add]
    exact if_neg (not_le.2 (by positivity))
  unfold splus
  rw [hl]
  refine ⟨((IsR.coe r).max IsR.zero).add (IsR.coe _), add_nonneg (le_max_right _ _) (EReal.coe_nonneg.2 (Real.log_nonneg ?_))⟩
  have := (Real.exp_pos (-m)).le
  linarith

theorem decay_nonpos {x : EReal} (h : 0 ≤ x) (a : EReal) : x * -Ideal.exp a ≤ 0 := by
  rw [mul_neg]
  have := mul_nonneg h (exp_nonneg a)
  simpa using EReal.neg_le_neg_iff.2 this

theorem cs_nonpos (d : Fin 4 → Fin 8 → EReal) (al : Fin 8 → EReal) (hd : ∀ s h, 0 ≤ d s h) (t : Fin 4) (h : Fin 8) : cs d al t h ≤ 0 :=
  Finset.sum_nonpos fun s _ => by split <;> first | exact decay_nonpos (hd s h) _ | exact le_refl _

theorem cs_le (d : Fin 4 → Fin 8 → EReal) (al : Fin 8 → EReal) (hd : ∀ s h, 0 ≤ d s h) (t : Fin 4) (h : Fin 8) : cs d al 3 h ≤ cs d al t h :=
  Finset.sum_le_sum fun s _ => by
    rw [if_pos (show s ≤ 3 by omega)]
    split
    · exact le_refl _
    · exact decay_nonpos (hd s h) _

/-! ## Sums over one sequence's rows -/

theorem own_eq : ∀ (x b : Fin 16), IntOp.cmpi CmpIPredicate.eq (BitVec.ofNat 32 x.val) (BitVec.ofNat 32 b.val) = if x = b then 1#1 else 0#1 := by decide
theorem mine_eq : ∀ (x : Fin 64) (b : Fin 16), IntOp.andi (IntOp.cmpi CmpIPredicate.eq (IntOp.andi (BitVec.ofNat 32 x.val) 15#32) (BitVec.ofNat 32 b.val)) (IntOp.cmpi CmpIPredicate.slt (BitVec.ofNat 32 x.val) 64#32)
    = if x.val % 16 = b.val then 1#1 else 0#1 := by decide +kernel

theorem own_sum {m : ℕ} (f : Fin 16 → EReal) (b : Fin 16) :
    (∑ x : Fin 16, Scalar.select (IntOp.cmpi CmpIPredicate.eq (BitVec.ofNat 32 x.val) (BitVec.ofNat 32 b.val)) (f x) 0) + ∑ _ : Fin m, (0 : EReal) = f b := by
  rw [Finset.sum_const_zero, add_zero, Finset.sum_eq_single b]
  · rw [own_eq, if_pos rfl]; rfl
  · intro x _ h; rw [own_eq, if_neg h]; rfl
  · exact fun h => absurd (Finset.mem_univ _) h

theorem mine_sum (f : Fin 64 → EReal) (b : Fin 16) (q : Fin 64 → BitVec 1) :
    (∑ x : Fin 64, Scalar.select (IntOp.andi (IntOp.cmpi CmpIPredicate.eq (IntOp.andi (BitVec.ofNat 32 x.val) 15#32) (BitVec.ofNat 32 b.val)) (IntOp.cmpi CmpIPredicate.slt (BitVec.ofNat 32 x.val) 64#32)) (f x) 0)
      + ∑ x : Fin 64, Scalar.select (q x) (0 * 0 : EReal) 0 = ∑ t, f (row t b) := by
  have z (x : Fin 64) : Scalar.select (q x) (0 * 0 : EReal) 0 = 0 := by
    rw [mul_zero]; exact ite_self _
  have s (x : Fin 64) : Scalar.select (IntOp.andi (IntOp.cmpi CmpIPredicate.eq (IntOp.andi (BitVec.ofNat 32 x.val) 15#32) (BitVec.ofNat 32 b.val)) (IntOp.cmpi CmpIPredicate.slt (BitVec.ofNat 32 x.val) 64#32)) (f x) 0
      = if x.val % 16 = b.val then f x else 0 := by
    rw [mine_eq]
    by_cases h : x.val % 16 = b.val
    · rw [if_pos h, if_pos h]; rfl
    · rw [if_neg h, if_neg h]; rfl
  rw [Finset.sum_congr rfl fun x _ => s x, Finset.sum_congr rfl fun x _ => z x, Finset.sum_const_zero, add_zero,
    ← (finProdFinEquiv (m := 4) (n := 16)).sum_comp, Fintype.sum_prod_type]
  refine Finset.sum_congr rfl fun t _ => ?_
  rw [Finset.sum_eq_single b]
  · rw [if_pos (by show (b.val + 16 * t.val) % 16 = b.val; omega)]
    exact congrArg f (Fin.ext (by show b.val + 16 * t.val = t.val * 16 + b.val; omega))
  · intro x _ h
    exact if_neg (fun e => h (Fin.ext (by have e : (x.val + 16 * t.val) % 16 = b.val := e; omega)))
  · exact fun h => absurd (Finset.mem_univ _) h

/-! ## The table's rows -/

theorem rates_apply (D : FVec Ideal S64x128 .f32) (A : FVec Ideal S1x128 .f32) (r : Fin 64) (k : Fin 128) : rates D A (ix2 r k) = D (ix2 r k) * -A (ix2 0 k) := by
  pointwise [rates]
  rw [zero_sub]

theorem pay71_rows (D : FVec Ideal S64x128 .f32) (A : FVec Ideal S1x128 .f32) (d : Fin 4 → Fin 8 → EReal) (al : Fin 8 → EReal) (b : Fin 16)
    (hD : ∀ t (h : Fin 8), D (ix2 (row t b) ⟨h.val, by omega⟩) = d t h) (hA : ∀ h : Fin 8, A (ix2 0 ⟨h.val, by omega⟩) = Ideal.exp (al h))
    (hr : ∀ t h, IsR (d t h)) (hp : ∀ t h, 0 ≤ d t h) (t : Fin 4) (c : Fin 512) :
    k0_pay71 D A (ix2 ⟨t.val * 16 + b.val, by omega⟩ c) = d t ⟨c.val / 64, by omega⟩
      ∧ k0_pay71 D A (ix2 ⟨128 + (t.val * 16 + b.val), by omega⟩ c) = Ideal.exp (cs d al 3 ⟨c.val / 64, by omega⟩ - cs d al t ⟨c.val / 64, by omega⟩)
      ∧ k0_pay71 D A (ix2 ⟨192 + b.val, by omega⟩ c) = Ideal.exp (cs d al 3 ⟨c.val / 64, by omega⟩) := by
  obtain ⟨v, u1, u2, u3, u4, u5, u6, e⟩ := pay71_fan D A
  rw [e]
  have hrun (t : Fin 4) : run (rates D A) t (ix2 b ⟨c.val / 64, by omega⟩) = cs d al t ⟨c.val / 64, by omega⟩ := by
    rw [run_apply]
    unfold cs
    refine Finset.sum_congr rfl fun s _ => ?_
    split
    · rw [rates_apply, hD s ⟨c.val / 64, by omega⟩, hA ⟨c.val / 64, by omega⟩]
    · rfl
  have top (t : Fin 4) : cs d al t ⟨c.val / 64, by omega⟩ ≠ ⊤ := fun e => absurd (e ▸ cs_nonpos d al hp t _) (by decide)
  have of {M : FVec Ideal S304x128 .f32} {i : Fin 304} {x : EReal} (hx : IsR x) (h : M (ix2 i ⟨c.val / 64, by omega⟩) = x) : fan M (ix2 i c) = x := by
    subst h; exact fan_apply M i c hx
  refine ⟨of (hr t _) ?_, of (exp_isR (sub_ne_top (cs_le d al hp t _) (top 3))) ?_, of (exp_isR (top 3)) ?_⟩
  · pointwise
    rw [dif_pos (by omega)]
    exact hD t ⟨c.val / 64, by omega⟩
  · pointwise
    rw [dif_neg (by omega), dif_neg (by omega), dif_pos (by omega)]
    have i : (⟨128 + (t.val * 16 + b.val) - 64 - 64, by omega⟩ : Fin 64) = row t b := Fin.ext (by show 128 + (t.val * 16 + b.val) - 64 - 64 = t.val * 16 + b.val; omega)
    rw [i, stack_apply, stack_apply, hrun, hrun]
  · pointwise
    rw [dif_neg (by omega), dif_neg (by omega), dif_neg (by omega), dif_pos (by omega)]
    have i : (⟨192 + b.val - 64 - 64 - 64, by omega⟩ : Fin 16) = b := Fin.ext (by show 192 + b.val - 64 - 64 - 64 = b.val; omega)
    rw [i, hrun]

variable (x0 : Vec Ideal S16x4x1024 .f32) (x1 : Vec Ideal S3x16x1024 .f32) (x2 : Vec Ideal S16x512x128 .f32) (x3 x4 : Vec Ideal S16x2x64x128 .f32)
  (x5 : Vec Ideal S1x1024 .f32) (x6 : Vec Ideal S1024x2432 .bf16) (x7 : Vec Ideal S4x1024 .f32) (x8 : Vec Ideal S1x1024 .f32) (x9 x10 : Vec Ideal S1x128 .f32)
  (x11 x12 : Vec Ideal S1x512 .f32) (x13 : Vec Ideal S512x1 .f32) (x14 : Vec Ideal S1024x1024 .bf16) (x15 : Vec Ideal S1x1024 .f32)

/-- The first half of a state's rows. -/
theorem half0 (W : FVec Ideal S64x512 .f32) (dec : FVec Ideal S16x512 .f32) (bm : FVec Ideal S64x256 .f32) (h0 : FVec Ideal S16x256x128 .f32) (b : Fin 16) (r : Fin 256) (n : Fin 128) :
    k0_pay379 (k0_pay487 x0 x1 x2 x3 x4 x5 x6 x7 x8 x9 x10 x11 x12 x13 x14 x15) h0 (k0_pay234 (k0_pay232 W (k0_pay481 x0 x1 x2 x3 x4 x5 x6 x7 x8 x9 x10 x11 x12 x13 x14 x15)) (k0_pay233 bm)) (k0_pay236 dec) (ix3 b r n)
      = h0 (ix3 b r n) * dec (ix2 b ⟨r.val, by omega⟩) + ∑ t, W (ix2 (row t b) ⟨r.val, by omega⟩) * bm (ix2 (row t b) ⟨n.val, by omega⟩) := by
  pointwise [k0_pay379, k0_pay487, k0_pay226, k0_pay234, k0_pay232, k0_pay225, k0_pay481, k0_pay233, k0_pay236]
  exact congrArg₂ (· + ·) (congrArg (h0 (ix3 b r n) * ·) (own_sum (fun x => dec (ix2 x ⟨r.val, _⟩)) b)) (mine_sum (fun x => W (ix2 x ⟨r.val, _⟩) * bm (ix2 x ⟨n.val, _⟩)) b _)

/-- The second half. -/
theorem half1 (W : FVec Ideal S64x512 .f32) (dec : FVec Ideal S16x512 .f32) (bm : FVec Ideal S64x256 .f32) (h0 : FVec Ideal S16x256x128 .f32) (b : Fin 16) (r : Fin 256) (n : Fin 128) :
    k0_pay381 (k0_pay487 x0 x1 x2 x3 x4 x5 x6 x7 x8 x9 x10 x11 x12 x13 x14 x15) h0 (k0_pay235 bm (k0_pay486 x0 x1 x2 x3 x4 x5 x6 x7 x8 x9 x10 x11 x12 x13 x14 x15) (k0_pay231 W)) (k0_pay237 dec) (ix3 b r n)
      = h0 (ix3 b r n) * dec (ix2 b ⟨256 + r.val, by omega⟩) + ∑ t, W (ix2 (row t b) ⟨256 + r.val, by omega⟩) * bm (ix2 (row t b) ⟨128 + n.val, by omega⟩) := by
  pointwise [k0_pay381, k0_pay487, k0_pay226, k0_pay235, k0_pay231, k0_pay225, k0_pay481, k0_pay486, k0_pay237]
  exact congrArg₂ (· + ·) (congrArg (h0 (ix3 b r n) * ·) (own_sum (fun x => dec (ix2 x ⟨256 + r.val, _⟩)) b)) (mine_sum (fun x => W (ix2 x ⟨256 + r.val, _⟩) * bm (ix2 x ⟨128 + n.val, _⟩)) b _)

theorem emb53 (b : Fin 16) (r : Fin 256) (n : Fin 128) : r0_53.emb (ix3 b r n) = ix3 b ⟨r.val, by omega⟩ n := by
  funext a; refine Fin.ext ?_
  match a with | ⟨0, _⟩ => exact (show 0 + 1 * b.val = b.val by omega) | ⟨1, _⟩ => exact (show 0 + 1 * r.val = r.val by omega) | ⟨2, _⟩ => exact (show 0 + 1 * n.val = n.val by omega)
theorem emb54 (b : Fin 16) (r : Fin 256) (n : Fin 128) : r0_54.emb (ix3 b r n) = ix3 b ⟨256 + r.val, by omega⟩ n := by
  funext a; refine Fin.ext ?_
  match a with | ⟨0, _⟩ => exact (show 0 + 1 * b.val = b.val by omega) | ⟨1, _⟩ => exact (show 256 + 1 * r.val = 256 + r.val by omega) | ⟨2, _⟩ => exact (show 0 + 1 * n.val = n.val by omega)

/-- The state's entry, from the rows after the convolution and the steps. -/
def stateAt (z : Fin 16 → Fin 4 → Fin 1024 → EReal) (d : Fin 16 → Fin 4 → Fin 8 → EReal) (al : Fin 8 → EReal) (y : S16x512x128.Idx) : EReal :=
  state (x2 y) (z (y 0 : Fin 16)) (d (y 0 : Fin 16)) al ⟨(y 1).val / 64, by have := (y 1).isLt; change (y 1).val < 512 at this; omega⟩ ⟨(y 1).val % 64, by omega⟩ (y 2 : Fin 128)

/-- A block's rows after the convolution. -/
def zAt (w : Fin 1024 → Fin 2312 → EReal) (b : Fin 16) (t : Fin 4) (c : Fin 1024) : EReal :=
  act (cv (fun i c => x1 (ix3 i b c)) (pr (fun t k => x0 (ix3 b t k)) (fun k => x5 (ix2 0 k)) w) (fun i c => x7 (ix2 i c)) (fun c => x8 (ix2 0 c)) t c)

/-- A block's steps. -/
def dAt (w : Fin 1024 → Fin 2312 → EReal) (db : Fin 8 → EReal) (b : Fin 16) : Fin 4 → Fin 8 → EReal :=
  dt (pr (fun t k => x0 (ix3 b t k)) (fun k => x5 (ix2 0 k)) w) db

set_option maxHeartbeats 1000000 in
/-- The state after a block's tokens. -/
theorem out17_apply (w : Fin 1024 → Fin 2312 → EReal) (db al : Fin 8 → EReal)
    (hw : ∀ k (c : Fin 1024), x6 (ix2 k ⟨512 + c.val, by omega⟩) = w k ⟨512 + c.val, by omega⟩)
    (hd : ∀ k (h : Fin 8), x6 (ix2 k ⟨2304 + h.val, by omega⟩) = w k ⟨1536 + h.val, by omega⟩)
    (hb : ∀ h : Fin 8, x9 (ix2 0 ⟨h.val, by omega⟩) = db h) (ha : ∀ h : Fin 8, x10 (ix2 0 ⟨h.val, by omega⟩) = al h)
    (hr : ∀ (b : Fin 16) t (h : Fin 8), IsR (pr (fun t k => x0 (ix3 b t k)) (fun k => x5 (ix2 0 k)) w t ⟨1536 + h.val, by omega⟩ + db h)) (y : S16x512x128.Idx) :
    out0_17 x0 x1 x2 x3 x4 x5 x6 x7 x8 x9 x10 x11 x12 x13 x14 x15 y = stateAt x2 (zAt x0 x1 x5 x7 x8 w)
      (dAt x0 x5 w db) al y := by
  have rows (b : Fin 16) := pay71_rows (k0_pay8 (k0_pay387 x0 x1 x2 x3 x4 x5 x6 x7 x8 x9 x10 x11 x12 x13 x14 x15) (View.ld x6 r0_10) (View.ld x9 r0_11)) (k0_pay70 (View.ld x10 r0_11))
    (dAt x0 x5 w db b) al b
    (fun t h => by
      rw [pay8_apply, if_pos h.isLt]
      unfold dAt dt pr
      refine congrArg splus (congrArg₂ (· + ·) (Finset.sum_congr rfl fun k _ => congrArg₂ (· * ·) (normed_rows ..) ?_) ?_)
      · rw [← hd k h]; pointwise
      · rw [← hb h]; pointwise)
    (fun h => by rw [← ha h]; pointwise [k0_pay70])
    (fun t h => (splus_real (hr b t h)).1) (fun t h => (splus_real (hr b t h)).2)
  have conv (t : Fin 4) (b : Fin 16) (c : Fin 1024) := conv_rows x0 x1 x2 x3 x4 x5 x6 x7 x8 x9 x10 x11 x12 x13 x14 x15 w hw t b c
  unfold out0_17
  refine View.canon_apply_of_pieces (Val := Elt Ideal) (e := .f32) (stateAt x2 (zAt x0 x1 x5 x7 x8 w) (dAt x0 x5 w db) al) _ ?_ y (cover0_17 _ _ y)
  have hB (t : Fin 4) (b : Fin 16) (c : Fin 256) : k0_pay410 x0 x1 x2 x3 x4 x5 x6 x7 x8 x9 x10 x11 x12 x13 x14 x15 (ix2 (row t b) c) = zAt x0 x1 x5 x7 x8 w b t ⟨512 + c.val, by omega⟩ := by
    refine Eq.trans ?_ (conv t b ⟨512 + c.val, by omega⟩)
    pointwise [k0_pay410, k0_pay68]
  have hW (t : Fin 4) (b : Fin 16) (c : Fin 512) : k0_pay484 x0 x1 x2 x3 x4 x5 x6 x7 x8 x9 x10 x11 x12 x13 x14 x15 (ix2 (row t b) c) = zAt x0 x1 x5 x7 x8 w b t ⟨c.val, by omega⟩ * dAt x0 x5 w db b t ⟨c.val / 64, by omega⟩
      * Ideal.exp (cs (dAt x0 x5 w db b) al 3 ⟨c.val / 64, by omega⟩ - cs (dAt x0 x5 w db b) al t ⟨c.val / 64, by omega⟩) := by
    refine Eq.trans ?_ (congrArg₂ (· * ·) (congrArg₂ (· * ·) (conv t b ⟨c.val, by omega⟩) (rows b t c).1) (rows b t c).2.1)
    pointwise [k0_pay484, k0_pay222, k0_pay220, k0_pay412, k0_pay409, k0_pay67]
    rfl
  have hE (b : Fin 16) (c : Fin 512) : k0_pay485 x0 x1 x2 x3 x4 x5 x6 x7 x8 x9 x10 x11 x12 x13 x14 x15 (ix2 b c) = Ideal.exp (cs (dAt x0 x5 w db b) al 3 ⟨c.val / 64, by omega⟩) := by
    refine Eq.trans ?_ (rows b 0 c).2.2
    pointwise [k0_pay485, k0_pay223, k0_pay412]
  simp only [List.forall_mem_cons, List.not_mem_nil, false_imp_iff, implies_true, and_true]
  refine ⟨fun x => ?_, fun x => ?_⟩
  · obtain ⟨b, r, n, rfl⟩ : ∃ (b : Fin 16) (r : Fin 256) (n : Fin 128), x = ix3 b r n := ⟨x 0, x 1, x 2, eq_ix3 x⟩
    rw [show r0_54.emb (ix3 b r n) = _ from emb54 b r n]
    refine (half1 x0 x1 x2 x3 x4 x5 x6 x7 x8 x9 x10 x11 x12 x13 x14 x15 (k0_pay484 x0 x1 x2 x3 x4 x5 x6 x7 x8 x9 x10 x11 x12 x13 x14 x15) (k0_pay485 x0 x1 x2 x3 x4 x5 x6 x7 x8 x9 x10 x11 x12 x13 x14 x15) (k0_pay410 x0 x1 x2 x3 x4 x5 x6 x7 x8 x9 x10 x11 x12 x13 x14 x15) _ b r n).trans ?_
    simp only [hW, hB, hE]
    unfold stateAt state
    rw [mul_comm]
    refine congrArg₂ (· + ·) (congrArg₂ (· * ·) ?_ ?_) (Finset.sum_congr rfl fun t _ => ?_)
    · rfl
    · pointwise [k0_pay228]
    · refine congrArg₂ (· * ·) (congrArg₂ (· * ·) (congrArg₂ (· * ·) (congrArg (zAt x0 x1 x5 x7 x8 w b t) (Fin.ext ?_)) rfl) rfl) (congrArg (zAt x0 x1 x5 x7 x8 w b t) (Fin.ext ?_))
      · show 256 + r.val = (256 + r.val) / 64 * 64 + (256 + r.val) % 64
        omega
      · show 512 + (128 + n.val) = 512 + (256 + r.val) / 64 / 4 * 128 + n.val
        omega
  · obtain ⟨b, r, n, rfl⟩ : ∃ (b : Fin 16) (r : Fin 256) (n : Fin 128), x = ix3 b r n := ⟨x 0, x 1, x 2, eq_ix3 x⟩
    rw [show r0_53.emb (ix3 b r n) = _ from emb53 b r n]
    refine (half0 x0 x1 x2 x3 x4 x5 x6 x7 x8 x9 x10 x11 x12 x13 x14 x15 (k0_pay484 x0 x1 x2 x3 x4 x5 x6 x7 x8 x9 x10 x11 x12 x13 x14 x15) (k0_pay485 x0 x1 x2 x3 x4 x5 x6 x7 x8 x9 x10 x11 x12 x13 x14 x15) (k0_pay410 x0 x1 x2 x3 x4 x5 x6 x7 x8 x9 x10 x11 x12 x13 x14 x15) _ b r n).trans ?_
    simp only [hW, hB, hE]
    unfold stateAt state
    rw [mul_comm]
    refine congrArg₂ (· + ·) (congrArg₂ (· * ·) ?_ ?_) (Finset.sum_congr rfl fun t _ => ?_)
    · rfl
    · pointwise [k0_pay227]
    · refine congrArg₂ (· * ·) (congrArg₂ (· * ·) (congrArg₂ (· * ·) (congrArg (zAt x0 x1 x5 x7 x8 w b t) (Fin.ext ?_)) rfl) rfl) (congrArg (zAt x0 x1 x5 x7 x8 w b t) (Fin.ext ?_))
      · show r.val = (r.val) / 64 * 64 + (r.val) % 64
        omega
      · show 512 + n.val = 512 + (r.val) / 64 / 4 * 128 + n.val
        omega

end Cert.Mix
-- ==== Proof.MixArrays.lean ====
module

public import proofs.«01_k».proof.Proof.MixWindow
public import proofs.«01_k».proof.Proof.MixState

@[expose] public section

set_option maxRecDepth 16384

noncomputable section

namespace Cert.Mix

open Idealize.ShloMosaic Idealize.ShloMosaic.TcCoe Idealize.SL.Sem
open Cert.KernelIdeal Cert.KernelIdeal.Gen Cert.Layer

variable (m : (ℓ : Loc nD τ sig) → Buf (Elt Ideal) ℓ) (c : Dev nD)

/-! ## The blocks of a grid point -/

theorem idx : ∀ t, win0_0.index t = ![(grid0.coords t 0).val, 0, 0] ∧ win0_1.index t = ![0, (grid0.coords t 0).val, 0] ∧ win0_2.index t = ![(grid0.coords t 0).val, 0, 0]
    ∧ win0_3.index t = ![(grid0.coords t 0).val, 0, 0, 0] ∧ win0_4.index t = ![(grid0.coords t 0).val, 0, 0, 0]
    ∧ win0_5.index t = ![0, 0] ∧ win0_6.index t = ![0, 0] ∧ win0_7.index t = ![0, 0] ∧ win0_8.index t = ![0, 0] ∧ win0_9.index t = ![0, 0] ∧ win0_10.index t = ![0, 0]
    ∧ win0_17.index t = ![(grid0.coords t 0).val, 0, 0] ∧ win0_18.index t = ![0, (grid0.coords t 0).val, 0]
    ∧ win0_19.index t = ![(grid0.coords t 0).val, 0, 0, 0] ∧ win0_20.index t = ![(grid0.coords t 0).val, 0, 0, 0] := by decide +kernel

theorem blk0 (t : Fin cfg0.N) (b : Fin 16) (s : Fin 4) (k : Fin 1024) (B : Fin 128) (hB : B.val = (grid0.coords t 0).val * 16 + b.val) :
    iblk m c 0 t (ix3 b s k) = m ((c : Thread nD τ).loc main_arg0) (ix3 B s k) := by
  blk_ext [iblk, V, idx t, hB]

/-! ## The arrays the host prepares -/

theorem val_v0 : V m c main_v0 = transpose S3x128x1024 [1, 0, 2] (m ((c : Thread nD τ).loc main_arg1)) transposes_S128x3x1024_S3x128x1024_1_0_2 := by rfl

theorem val_v1 : V m c main_v1 = shapeCast S128x512x128 (m ((c : Thread nD τ).loc main_arg2)) shapeCasts_S128x8x64x128_S128x512x128 := by rfl

theorem val_v2 : V m c main_v2 = transpose S128x2x64x128 [0, 2, 3, 1] (m ((c : Thread nD τ).loc main_arg3)) transposes_S128x128x2x64_S128x2x64x128_0_2_3_1 := by rfl

theorem val_v3 : V m c main_v3 = transpose S128x2x64x128 [0, 2, 3, 1] (m ((c : Thread nD τ).loc main_arg4)) transposes_S128x128x2x64_S128x2x64x128_0_2_3_1 := by rfl

theorem val_v7 : V m c main_v7 = shapeCast S1x1024 (m ((c : Thread nD τ).loc main_arg5)) shapeCasts_S1024_S1x1024 := by rfl

theorem val_v18 : V m c main_v18 = shapeCast S1x1024 (m ((c : Thread nD τ).loc main_arg8)) shapeCasts_S1024_S1x1024 := by rfl

theorem val_v20 : V m c main_v20 = pad S1x128 ![0, 0] ![0, 120] ![0, 0] (shapeCast S1x8 (m ((c : Thread nD τ).loc main_arg9)) shapeCasts_S8_S1x8) (sitofp (F := Ideal) .f32 (constantI S_ 32 0#32)) pads_S1x8_S1x128_000_01200 h_S_ := by rfl

theorem val_v22 : V m c main_v22 = pad S1x128 ![0, 0] ![0, 120] ![0, 0] (shapeCast S1x8 (m ((c : Thread nD τ).loc main_arg10)) shapeCasts_S8_S1x8) (sitofp (F := Ideal) .f32 (constantI S_ 32 0#32)) pads_S1x8_S1x128_000_01200 h_S_ := by rfl

/-- the window weights: the columns of the projection in the order the kernel keeps them -/
theorem val_v17 : V m c main_v17 = truncf .bf16 (concatenate S1024x2432 1
    [⟨S1024x1536, extractStridedSlice S1024x1536 ![0, 0] (m ((c : Thread nD τ).loc main_arg6)) slices_S1024x2312_S1024x1536_0_0⟩,
     ⟨S1024x512, mulf (extractStridedSlice S1024x512 ![0, 1544] (m ((c : Thread nD τ).loc main_arg6)) slices_S1024x2312_S1024x512_0_1544)
        (broadcastInDim S1024x512 ![] bcast_S_S1024x512 (constant (F := Ideal) S_ .f32 0x3E000000#32))⟩,
     ⟨S1024x256, extractStridedSlice S1024x256 ![0, 2056] (m ((c : Thread nD τ).loc main_arg6)) slices_S1024x2312_S1024x256_0_2056⟩,
     ⟨S1024x128, concatenate S1024x128 1 [⟨S1024x8, extractStridedSlice S1024x8 ![0, 1536] (m ((c : Thread nD τ).loc main_arg6)) slices_S1024x2312_S1024x8_0_1536⟩,
        ⟨S1024x120, broadcastInDim S1024x120 ![] bcast_S_S1024x120 (constant (F := Ideal) S_ .f32 0x00000000#32)⟩] concatenates_S1024x8_S1024x120_S1024x128_d1⟩]
    concatenates_S1024x1536_S1024x512_S1024x256_S1024x128_S1024x2432_d1) bitsLt_bf16_f32 := by rfl

/-! ## The blocks the host prepares -/

theorem blk1 (t : Fin cfg0.N) (j : Fin 3) (b : Fin 16) (k : Fin 1024) (B : Fin 128) (hB : B.val = (grid0.coords t 0).val * 16 + b.val) :
    iblk m c 1 t (ix3 j b k) = m ((c : Thread nD τ).loc main_arg1) (ix3 B j k) := by
  refine (congrFun (val_v0 m c) _).trans ?_
  pointwise
  blk_ext [iblk, idx t, hB]

theorem merged_apply (x : FVec Ideal S128x8x64x128 .f32) (b : Fin 128) (r : Fin 512) (n : Fin 128) :
    shapeCast S128x512x128 x shapeCasts_S128x8x64x128_S128x512x128 (ix3 b r n) = x (ix4 b ⟨r.val / 64, by omega⟩ ⟨r.val % 64, by omega⟩ n) := by
  pointwise

theorem blk2 (t : Fin cfg0.N) (b : Fin 16) (r : Fin 512) (n : Fin 128) (B : Fin 128) (hB : B.val = (grid0.coords t 0).val * 16 + b.val) :
    iblk m c 2 t (ix3 b r n) = m ((c : Thread nD τ).loc main_arg2) (ix4 B ⟨r.val / 64, by omega⟩ ⟨r.val % 64, by omega⟩ n) := by
  have h : iblk m c 2 t (ix3 b r n) = V m c main_v1 (ix3 B r n) := by blk_ext [iblk, idx t, hB]
  rw [h, val_v1]
  exact merged_apply _ B r n

theorem blk3 (t : Fin cfg0.N) (b : Fin 16) (g : Fin 2) (d : Fin 64) (l : Fin 128) (B : Fin 128) (hB : B.val = (grid0.coords t 0).val * 16 + b.val) :
    iblk m c 3 t (ix4 b g d l) = m ((c : Thread nD τ).loc main_arg3) (ix4 B l g d) := by
  refine (congrFun (val_v2 m c) _).trans ?_
  pointwise
  blk_ext [iblk, idx t, hB]

theorem blk4 (t : Fin cfg0.N) (b : Fin 16) (g : Fin 2) (d : Fin 64) (l : Fin 128) (B : Fin 128) (hB : B.val = (grid0.coords t 0).val * 16 + b.val) :
    iblk m c 4 t (ix4 b g d l) = m ((c : Thread nD τ).loc main_arg4) (ix4 B l g d) := by
  refine (congrFun (val_v3 m c) _).trans ?_
  pointwise
  blk_ext [iblk, idx t, hB]

theorem blk5 (t : Fin cfg0.N) (k : Fin 1024) : iblk m c 5 t (ix2 0 k) = m ((c : Thread nD τ).loc main_arg5) (ix1 k) := by
  refine (congrFun (val_v7 m c) _).trans ?_
  pointwise
  blk_ext [iblk, idx t]

theorem blk7 (t : Fin cfg0.N) (i : Fin 4) (k : Fin 1024) : iblk m c 7 t (ix2 i k) = m ((c : Thread nD τ).loc main_arg7) (ix2 i k) := by
  blk_ext [iblk, V, idx t]

theorem blk8 (t : Fin cfg0.N) (k : Fin 1024) : iblk m c 8 t (ix2 0 k) = m ((c : Thread nD τ).loc main_arg8) (ix1 k) := by
  refine (congrFun (val_v18 m c) _).trans ?_
  pointwise
  blk_ext [iblk, idx t]

theorem blk9 (t : Fin cfg0.N) (h : Fin 8) : iblk m c 9 t (ix2 0 ⟨h.val, by omega⟩) = m ((c : Thread nD τ).loc main_arg9) (ix1 h) := by
  have h' : iblk m c 9 t (ix2 0 ⟨h.val, by omega⟩) = V m c main_v20 (ix2 0 ⟨h.val, by omega⟩) := by blk_ext [iblk, idx t]
  rw [h', val_v20]
  pointwise

theorem blk10 (t : Fin cfg0.N) (h : Fin 8) : iblk m c 10 t (ix2 0 ⟨h.val, by omega⟩) = m ((c : Thread nD τ).loc main_arg10) (ix1 h) := by
  have h' : iblk m c 10 t (ix2 0 ⟨h.val, by omega⟩) = V m c main_v22 (ix2 0 ⟨h.val, by omega⟩) := by blk_ext [iblk, idx t]
  rw [h', val_v22]
  pointwise

theorem blk6 (t : Fin cfg0.N) (k : Fin 1024) (j : Fin 2432) : iblk m c 6 t (ix2 k j) = V m c main_v17 (ix2 k j) := by
  blk_ext [iblk, idx t]

theorem win_conv (t : Fin cfg0.N) (k j : Fin 1024) : iblk m c 6 t (ix2 k ⟨512 + j.val, by omega⟩) = m ((c : Thread nD τ).loc main_arg6) (ix2 k ⟨512 + j.val, by omega⟩) := by
  rw [blk6, val_v17]
  pointwise
  rw [dif_pos (by omega)]
  blk_ext []

theorem win_key (t : Fin cfg0.N) (k : Fin 1024) (j : Fin 128) : iblk m c 6 t (ix2 k ⟨2048 + j.val, by omega⟩) = m ((c : Thread nD τ).loc main_arg6) (ix2 k ⟨2056 + j.val, by omega⟩) := by
  rw [blk6, val_v17]
  pointwise
  rw [dif_neg (by omega), dif_neg (by omega), dif_pos (by omega)]
  blk_ext []

theorem win_val (t : Fin cfg0.N) (k : Fin 1024) (j : Fin 128) : iblk m c 6 t (ix2 k ⟨2176 + j.val, by omega⟩) = m ((c : Thread nD τ).loc main_arg6) (ix2 k ⟨2184 + j.val, by omega⟩) := by
  rw [blk6, val_v17]
  pointwise
  rw [dif_neg (by omega), dif_neg (by omega), dif_pos (by omega)]
  blk_ext []

theorem win_step (t : Fin cfg0.N) (k : Fin 1024) (j : Fin 8) : iblk m c 6 t (ix2 k ⟨2304 + j.val, by omega⟩) = m ((c : Thread nD τ).loc main_arg6) (ix2 k ⟨1536 + j.val, by omega⟩) := by
  rw [blk6, val_v17]
  pointwise
  rw [dif_neg (by omega), dif_neg (by omega), dif_neg (by omega), dif_pos (by omega)]
  blk_ext []

/-! ## The results, entry by entry -/

/-- The projected rows of sequence `b`. -/
def rowP (x : FVec Ideal S128x4x1024 .f32) (g : FVec Ideal S1024 .f32) (w : FVec Ideal S1024x2312 .f32) (b : Fin 128) : Fin 4 → Fin 2312 → EReal :=
  pr (fun t k => x (ix3 b t k)) (fun k => g (ix1 k)) (fun k j => w (ix2 k j))

def keptOut (x : FVec Ideal S128x4x1024 .f32) (g : FVec Ideal S1024 .f32) (w : FVec Ideal S1024x2312 .f32) (j : Fin 3) (b : Fin 128) (c : Fin 1024) : EReal :=
  rowP x g w b ⟨j.val + 1, by omega⟩ ⟨512 + c.val, by omega⟩

/-- A window moved four steps on; the new steps are the rows' columns from `o` on. -/
def slideOut (kc : FVec Ideal S128x128x2x64 .f32) (x : FVec Ideal S128x4x1024 .f32) (g : FVec Ideal S1024 .f32) (w : FVec Ideal S1024x2312 .f32) (o : ℕ) (ho : o ≤ 2184)
    (b : Fin 128) (r : Fin 2) (d : Fin 64) (l : Fin 128) : EReal :=
  if h : l.val < 124 then kc (ix4 b ⟨l.val + 4, by omega⟩ r d) else rowP x g w b ⟨l.val - 124, by omega⟩ ⟨o + (r.val * 64 + d.val), by omega⟩

/-- The convolved rows of sequence `b`. -/
def rowZ (x : FVec Ideal S128x4x1024 .f32) (sc : FVec Ideal S128x3x1024 .f32) (g : FVec Ideal S1024 .f32) (w : FVec Ideal S1024x2312 .f32) (cw : FVec Ideal S4x1024 .f32) (cb : FVec Ideal S1024 .f32)
    (b : Fin 128) (t : Fin 4) (k : Fin 1024) : EReal :=
  act (cv (fun i k => sc (ix3 b i k)) (rowP x g w b) (fun i k => cw (ix2 i k)) (fun k => cb (ix1 k)) t k)

def stateOut (x : FVec Ideal S128x4x1024 .f32) (sc : FVec Ideal S128x3x1024 .f32) (h0 : FVec Ideal S128x8x64x128 .f32) (g : FVec Ideal S1024 .f32) (w : FVec Ideal S1024x2312 .f32) (cw : FVec Ideal S4x1024 .f32) (cb : FVec Ideal S1024 .f32)
    (db al : FVec Ideal S8 .f32) (b : Fin 128) (r : Fin 512) (n : Fin 128) : EReal :=
  state (h0 (ix4 b ⟨r.val / 64, by omega⟩ ⟨r.val % 64, by omega⟩ n)) (rowZ x sc g w cw cb b) (dt (rowP x g w b) (fun h => db (ix1 h))) (fun h => al (ix1 h))
    ⟨r.val / 64, by omega⟩ ⟨r.val % 64, by omega⟩ n

theorem rowP_real {x : FVec Ideal S128x4x1024 .f32} {g : FVec Ideal S1024 .f32} {w : FVec Ideal S1024x2312 .f32} (hx : ∀ i, IsR (x i)) (hg : ∀ i, IsR (g i)) (hw : ∀ i, IsR (w i))
    (b : Fin 128) (t : Fin 4) (j : Fin 2312) : IsR (rowP x g w b t j) :=
  show IsR (∑ k, nrm (fun k => x (ix3 b t k)) (fun k => g (ix1 k)) k * w (ix2 k j)) from
    IsR.sum _ fun k => (IsR.nrm (fun k => hx _) (fun k => hg _) k).mul (hw _)

/-- The sequence a block's row `b` is. -/
def seqOf (t : Fin cfg0.N) (b : Fin 16) : Fin 128 := ⟨(grid0.coords t 0).val * 16 + b.val, by
  have h := (grid0.coords t 0).isLt; change (grid0.coords t 0).val < 8 at h; omega⟩

theorem rowP_blk (t : Fin cfg0.N) (b : Fin 16) :
    pr (fun s k => iblk m c 0 t (ix3 b s k)) (fun k => iblk m c 5 t (ix2 0 k)) (fun k j => (m ((c : Thread nD τ).loc main_arg6)) (ix2 k j)) = rowP (m ((c : Thread nD τ).loc main_arg0)) (m ((c : Thread nD τ).loc main_arg5)) (m ((c : Thread nD τ).loc main_arg6)) (seqOf t b) := by
  unfold rowP
  rw [funext fun s => funext fun k => blk0 m c t b s k (seqOf t b) rfl, funext fun k => blk5 m c t k]

theorem rowZ_blk (t : Fin cfg0.N) (b : Fin 16) :
    zAt (iblk m c 0 t) (iblk m c 1 t) (iblk m c 5 t) (iblk m c 7 t) (iblk m c 8 t) (fun k j => (m ((c : Thread nD τ).loc main_arg6)) (ix2 k j)) b = rowZ (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (seqOf t b) := by
  funext s k
  unfold zAt rowZ
  rw [rowP_blk, funext fun i => funext fun k => blk1 m c t i b k (seqOf t b) rfl, funext fun i => funext fun k => blk7 m c t i k, funext fun k => blk8 m c t k]

theorem arr18 : (dats m 0 c).arrAt 18 (cfgs 0).N = fun i : S3x128x1024.Idx => keptOut (m ((c : Thread nD τ).loc main_arg0)) (m ((c : Thread nD τ).loc main_arg5)) (m ((c : Thread nD τ).loc main_arg6)) (i 0) (i 1) (i 2) := by
  refine (dats m 0 c).arrAt_eq_of_covers 18 _ (by decide +kernel) fun t hf y => ?_
  blk_simp
  rw [after0_18]
  obtain ⟨j, b, k, rfl⟩ : ∃ (j : Fin 3) (b : Fin 16) (k : Fin 1024), y = ix3 j b k := ⟨y 0, y 1, y 2, eq_ix3 y⟩
  refine (out18_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun k j => (m ((c : Thread nD τ).loc main_arg6)) (ix2 k j)) (win_conv m c t) (ix3 j b k)).trans ?_
  have key : ∀ (j' : Fin 3) (b' : Fin 128) (k' : Fin 1024), j'.val = j.val → b'.val = (grid0.coords t 0).val * 16 + b.val → k'.val = k.val →
      keptAt (iblk m c 0 t) (iblk m c 5 t) (fun k j => (m ((c : Thread nD τ).loc main_arg6)) (ix2 k j)) (ix3 j b k) = keptOut (m ((c : Thread nD τ).loc main_arg0)) (m ((c : Thread nD τ).loc main_arg5)) (m ((c : Thread nD τ).loc main_arg6)) j' b' k' := by
    intro j' b' k' hj hb hk
    obtain rfl := Fin.ext hj
    obtain rfl := Fin.ext hk
    obtain rfl : b' = seqOf t b := Fin.ext hb
    exact congrFun (congrFun (rowP_blk m c t b) _) _
  refine key _ _ _ ?_ ?_ ?_ <;> blk_simp [idx t]

section Finite
variable (hx : ∀ i, IsR ((m ((c : Thread nD τ).loc main_arg0)) i)) (hg : ∀ i, IsR ((m ((c : Thread nD τ).loc main_arg5)) i)) (hw : ∀ i, IsR ((m ((c : Thread nD τ).loc main_arg6)) i)) (hb : ∀ i, IsR ((m ((c : Thread nD τ).loc main_arg9)) i))

include hx hg hw in
theorem arr19 : (dats m 0 c).arrAt 19 (cfgs 0).N = fun i : S128x2x64x128.Idx => slideOut (m ((c : Thread nD τ).loc main_arg3)) (m ((c : Thread nD τ).loc main_arg0)) (m ((c : Thread nD τ).loc main_arg5)) (m ((c : Thread nD τ).loc main_arg6)) 2056 (by norm_num) (i 0) (i 1) (i 2) (i 3) := by
  refine (dats m 0 c).arrAt_eq_of_covers 19 _ (by decide +kernel) fun t hf y => ?_
  blk_simp
  rw [after0_19]
  obtain ⟨b, r, d, l, rfl⟩ : ∃ (b : Fin 16) (r : Fin 2) (d : Fin 64) (l : Fin 128), y = ix4 b r d l := ⟨y 0, y 1, y 2, y 3, eq_ix4 y⟩
  refine (out19_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun b s j => rowP (m ((c : Thread nD τ).loc main_arg0)) (m ((c : Thread nD τ).loc main_arg5)) (m ((c : Thread nD τ).loc main_arg6)) (seqOf t b) s ⟨2056 + j.val, by omega⟩)
    (fun b s j => (keys_cols (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun k j => (m ((c : Thread nD τ).loc main_arg6)) (ix2 k j)) (win_key m c t) s b j).trans (congrFun (congrFun (rowP_blk m c t b) _) _))
    (fun b s j => rowP_real hx hg hw _ _ _) (ix4 b r d l)).trans ?_
  have key : ∀ (b' : Fin 128) (r' : Fin 2) (d' : Fin 64) (l' : Fin 128), b'.val = (grid0.coords t 0).val * 16 + b.val → r'.val = r.val → d'.val = d.val → l'.val = l.val →
      slideAt (iblk m c 3 t) (fun b s j => rowP (m ((c : Thread nD τ).loc main_arg0)) (m ((c : Thread nD τ).loc main_arg5)) (m ((c : Thread nD τ).loc main_arg6)) (seqOf t b) s ⟨2056 + j.val, by omega⟩) (ix4 b r d l) = slideOut (m ((c : Thread nD τ).loc main_arg3)) (m ((c : Thread nD τ).loc main_arg0)) (m ((c : Thread nD τ).loc main_arg5)) (m ((c : Thread nD τ).loc main_arg6)) 2056 (by norm_num) b' r' d' l' := by
    intro b' r' d' l' hb hr hd hl
    obtain rfl := Fin.ext hr
    obtain rfl := Fin.ext hd
    obtain rfl := Fin.ext hl
    obtain rfl : b' = seqOf t b := Fin.ext hb
    unfold slideAt slideOut
    by_cases h : l'.val < 124
    · refine (dif_pos h).trans ?_
      rw [dif_pos h]
      exact blk3 m c t b r' d' ⟨l'.val + 4, by omega⟩ (seqOf t b) rfl
    · refine (dif_neg h).trans ?_
      rw [dif_neg h] <;> rfl
  refine key _ _ _ _ ?_ ?_ ?_ ?_ <;> blk_simp [idx t]

include hx hg hw in
theorem arr20 : (dats m 0 c).arrAt 20 (cfgs 0).N = fun i : S128x2x64x128.Idx => slideOut (m ((c : Thread nD τ).loc main_arg4)) (m ((c : Thread nD τ).loc main_arg0)) (m ((c : Thread nD τ).loc main_arg5)) (m ((c : Thread nD τ).loc main_arg6)) 2184 (by norm_num) (i 0) (i 1) (i 2) (i 3) := by
  refine (dats m 0 c).arrAt_eq_of_covers 20 _ (by decide +kernel) fun t hf y => ?_
  blk_simp
  rw [after0_20]
  obtain ⟨b, r, d, l, rfl⟩ : ∃ (b : Fin 16) (r : Fin 2) (d : Fin 64) (l : Fin 128), y = ix4 b r d l := ⟨y 0, y 1, y 2, y 3, eq_ix4 y⟩
  refine (out20_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun b s j => rowP (m ((c : Thread nD τ).loc main_arg0)) (m ((c : Thread nD τ).loc main_arg5)) (m ((c : Thread nD τ).loc main_arg6)) (seqOf t b) s ⟨2184 + j.val, by omega⟩)
    (fun b s j => (vals_cols (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun k j => (m ((c : Thread nD τ).loc main_arg6)) (ix2 k j)) (win_val m c t) s b j).trans (congrFun (congrFun (rowP_blk m c t b) _) _))
    (fun b s j => rowP_real hx hg hw _ _ _) (ix4 b r d l)).trans ?_
  have key : ∀ (b' : Fin 128) (r' : Fin 2) (d' : Fin 64) (l' : Fin 128), b'.val = (grid0.coords t 0).val * 16 + b.val → r'.val = r.val → d'.val = d.val → l'.val = l.val →
      slideAt (iblk m c 4 t) (fun b s j => rowP (m ((c : Thread nD τ).loc main_arg0)) (m ((c : Thread nD τ).loc main_arg5)) (m ((c : Thread nD τ).loc main_arg6)) (seqOf t b) s ⟨2184 + j.val, by omega⟩) (ix4 b r d l) = slideOut (m ((c : Thread nD τ).loc main_arg4)) (m ((c : Thread nD τ).loc main_arg0)) (m ((c : Thread nD τ).loc main_arg5)) (m ((c : Thread nD τ).loc main_arg6)) 2184 (by norm_num) b' r' d' l' := by
    intro b' r' d' l' hb hr hd hl
    obtain rfl := Fin.ext hr
    obtain rfl := Fin.ext hd
    obtain rfl := Fin.ext hl
    obtain rfl : b' = seqOf t b := Fin.ext hb
    unfold slideAt slideOut
    by_cases h : l'.val < 124
    · refine (dif_pos h).trans ?_
      rw [dif_pos h]
      exact blk4 m c t b r' d' ⟨l'.val + 4, by omega⟩ (seqOf t b) rfl
    · refine (dif_neg h).trans ?_
      rw [dif_neg h] <;> rfl
  refine key _ _ _ _ ?_ ?_ ?_ ?_ <;> blk_simp [idx t]

include hx hg hw hb in
theorem arr17 : (dats m 0 c).arrAt 17 (cfgs 0).N = fun i : S128x512x128.Idx => stateOut (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1) (i 2) := by
  refine (dats m 0 c).arrAt_eq_of_covers 17 _ (by decide +kernel) fun t hf y => ?_
  blk_simp
  rw [after0_17]
  obtain ⟨b, r, n, rfl⟩ : ∃ (b : Fin 16) (r : Fin 512) (n : Fin 128), y = ix3 b r n := ⟨y 0, y 1, y 2, eq_ix3 y⟩
  refine (out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun k j => (m ((c : Thread nD τ).loc main_arg6)) (ix2 k j)) (fun h => (m ((c : Thread nD τ).loc main_arg9)) (ix1 h)) (fun h => (m ((c : Thread nD τ).loc main_arg10)) (ix1 h)) (win_conv m c t) (win_step m c t) (blk9 m c t) (blk10 m c t)
    (fun b s h => by rw [rowP_blk]; exact (rowP_real hx hg hw _ _ _).add (hb _)) (ix3 b r n)).trans ?_
  have key : ∀ (b' : Fin 128) (r' : Fin 512) (n' : Fin 128), b'.val = (grid0.coords t 0).val * 16 + b.val → r'.val = r.val → n'.val = n.val →
      stateAt (iblk m c 2 t) (zAt (iblk m c 0 t) (iblk m c 1 t) (iblk m c 5 t) (iblk m c 7 t) (iblk m c 8 t) (fun k j => (m ((c : Thread nD τ).loc main_arg6)) (ix2 k j)))
        (dAt (iblk m c 0 t) (iblk m c 5 t) (fun k j => (m ((c : Thread nD τ).loc main_arg6)) (ix2 k j)) (fun h => (m ((c : Thread nD τ).loc main_arg9)) (ix1 h))) (fun h => (m ((c : Thread nD τ).loc main_arg10)) (ix1 h)) (ix3 b r n)
      = stateOut (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b' r' n' := by
    intro b' r' n' hb hr hn
    obtain rfl := Fin.ext hr
    obtain rfl := Fin.ext hn
    obtain rfl : b' = seqOf t b := Fin.ext hb
    unfold stateAt stateOut
    rw [blk2 m c t b r' n' (seqOf t b) rfl]
    exact congrArg₂ (fun z d => state _ z d _ _ _ _) (rowZ_blk m c t b) (congrArg (fun p => dt p _) (rowP_blk m c t b))
  refine key _ _ _ ?_ ?_ ?_ <;> blk_simp [idx t]
end Finite

end Cert.Mix
-- ==== Proof.MixRef.lean ====
module

public import proofs.«01_k».proof.Proof.MixMath
public import proofs.«01_k».proof.Proof.Gen.ReferenceIdeal.Run
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

namespace Cert.Mix

open Idealize.ShloMosaic Idealize.ShloMosaic.TcCoe Idealize.SL.Sem
open Cert.ReferenceIdeal Cert.ReferenceIdeal.Gen Cert.Layer Cert.ReferenceIdeal.Facts

/-! ## The reference's vectors -/

def normed (x : FVec Ideal S128x4x1024 .f32) (g : FVec Ideal S1024 .f32) : FVec Ideal S128x4x1024 .f32 :=
  mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 g))

theorem normed_apply (x : FVec Ideal S128x4x1024 .f32) (g : FVec Ideal S1024 .f32) (b : Fin 128) (r : Fin 4) (k : Fin 1024) :
    normed x g (ix3 b r k) = nrm (fun k => x (ix3 b r k)) (fun k => g (ix1 k)) k := by
  unfold normed; pointwise; rfl

/-- The input projection. -/
def proj (x : FVec Ideal S128x4x1024 .f32) (g : FVec Ideal S1024 .f32) (w : FVec Ideal S1024x2312 .f32) : FVec Ideal S128x4x2312 .f32 :=
  Host.dotGeneral (F := Ideal) dot_S128x4x1024_S1024x2312_S128x4x2312_2_0_01_1_n_n none (normed x g) w

theorem proj_apply (x : FVec Ideal S128x4x1024 .f32) (g : FVec Ideal S1024 .f32) (w : FVec Ideal S1024x2312 .f32) (b : Fin 128) (t : Fin 4) (j : Fin 2312) :
    proj x g w (ix3 b t j) = pr (fun t k => x (ix3 b t k)) (fun k => g (ix1 k)) (fun k j => w (ix2 k j)) t j := by
  unfold proj; pointwise [normed_apply]; rfl

/-- The convolution's input, seven steps. -/
def ups (s : FVec Ideal S128x3x1024 .f32) (p : FVec Ideal S128x4x2312 .f32) : FVec Ideal S128x7x1024 .f32 :=
  concatenate S128x7x1024 1 [⟨S128x3x1024, s⟩, ⟨S128x4x1024, extractStridedSlice S128x4x1024 ![0, 0, 512] p slices_S128x4x2312_S128x4x1024_0_0_512⟩] concatenates_S128x3x1024_S128x4x1024_S128x7x1024_d1

theorem ups_apply (s : FVec Ideal S128x3x1024 .f32) (p : FVec Ideal S128x4x2312 .f32) (b : Fin 128) (i : ℕ) (hi : i < 7) (c : Fin 1024) :
    ups s p (ix3 b ⟨i, hi⟩ c) = up (fun i c => s (ix3 b i c)) (fun t j => p (ix3 b t j)) i c := by
  unfold ups up
  pointwise
  by_cases h : i < 3
  · rw [dif_pos h]
    rw [dif_pos h]
  · rw [dif_neg h, dif_neg h]
    rw [dif_pos (by omega)]

/-- The convolution and its activation. -/
def pre (u : FVec Ideal S128x7x1024 .f32) (w : FVec Ideal S4x1024 .f32) (b : FVec Ideal S1024 .f32) : FVec Ideal S128x4x1024 .f32 :=
  addf (addf (addf (addf
    (broadcastInDim S128x4x1024 ![0, 1, 2] bcast_S1x1x1024_S128x4x1024_0_1_2 (broadcastInDim S1x1x1024 ![2] bcast_S1024_S1x1x1024_2 b))
    (mulf (extractStridedSlice S128x4x1024 ![0, 0, 0] u slices_S128x7x1024_S128x4x1024_0_0_0) (broadcastInDim S128x4x1024 ![0, 1, 2] bcast_S1x1x1024_S128x4x1024_0_1_2 (broadcastInDim S1x1x1024 ![2] bcast_S1024_S1x1x1024_2 (shapeCast _ (extractStridedSlice S1x1024 ![0, 0] w slices_S4x1024_S1x1024_0_0) shapeCasts_S1x1024_S1024)))))
    (mulf (extractStridedSlice S128x4x1024 ![0, 1, 0] u slices_S128x7x1024_S128x4x1024_0_1_0) (broadcastInDim S128x4x1024 ![0, 1, 2] bcast_S1x1x1024_S128x4x1024_0_1_2 (broadcastInDim S1x1x1024 ![2] bcast_S1024_S1x1x1024_2 (shapeCast _ (extractStridedSlice S1x1024 ![1, 0] w slices_S4x1024_S1x1024_1_0) shapeCasts_S1x1024_S1024)))))
    (mulf (extractStridedSlice S128x4x1024 ![0, 2, 0] u slices_S128x7x1024_S128x4x1024_0_2_0) (broadcastInDim S128x4x1024 ![0, 1, 2] bcast_S1x1x1024_S128x4x1024_0_1_2 (broadcastInDim S1x1x1024 ![2] bcast_S1024_S1x1x1024_2 (shapeCast _ (extractStridedSlice S1x1024 ![2, 0] w slices_S4x1024_S1x1024_2_0) shapeCasts_S1x1024_S1024)))))
    (mulf (extractStridedSlice S128x4x1024 ![0, 3, 0] u slices_S128x7x1024_S128x4x1024_0_3_0) (broadcastInDim S128x4x1024 ![0, 1, 2] bcast_S1x1x1024_S128x4x1024_0_1_2 (broadcastInDim S1x1x1024 ![2] bcast_S1024_S1x1x1024_2 (shapeCast _ (extractStridedSlice S1x1024 ![3, 0] w slices_S4x1024_S1x1024_3_0) shapeCasts_S1x1024_S1024))))

theorem pre_apply (s : FVec Ideal S128x3x1024 .f32) (p : FVec Ideal S128x4x2312 .f32) (w : FVec Ideal S4x1024 .f32) (v : FVec Ideal S1024 .f32) (b : Fin 128) (t : Fin 4) (c : Fin 1024) :
    pre (ups s p) w v (ix3 b t c) = cv (fun i c => s (ix3 b i c)) (fun t j => p (ix3 b t j)) (fun i c => w (ix2 i c)) (fun c => v (ix1 c)) t c := by
  unfold pre cv
  have h (i : ℕ) (hi : i < 7) := ups_apply s p b i hi c
  pointwise [h]
  rw [Nat.add_comm 1 t.val, Nat.add_comm 2 t.val, Nat.add_comm 3 t.val]

def acted (y : FVec Ideal S128x4x1024 .f32) : FVec Ideal S128x4x1024 .f32 :=
  mulf y (Host.divf (broadcastInDim S128x4x1024 ![] bcast_S_S128x4x1024 (constant S_ .f32 0x3F800000#32)) (addf (broadcastInDim S128x4x1024 ![] bcast_S_S128x4x1024 (constant S_ .f32 0x3F800000#32)) (Host.exp (Host.negf y))))

theorem acted_apply (y : FVec Ideal S128x4x1024 .f32) (i : S128x4x1024.Idx) : acted y i = act (y i) := by
  unfold acted; pointwise; rfl

/-- The step sizes. -/
def steps (y : FVec Ideal S128x4x8 .f32) : FVec Ideal S128x4x8 .f32 :=
  select (cmpf .une (subf y (broadcastInDim S128x4x8 ![] bcast_S_S128x4x8 (constant S_ .f32 0x00000000#32))) (subf y (broadcastInDim S128x4x8 ![] bcast_S_S128x4x8 (constant S_ .f32 0x00000000#32))))
    (addf y (broadcastInDim S128x4x8 ![] bcast_S_S128x4x8 (constant S_ .f32 0x00000000#32)))
    (addf (maximumf y (broadcastInDim S128x4x8 ![] bcast_S_S128x4x8 (constant S_ .f32 0x00000000#32)))
      (Host.log1p (Host.exp (Host.negf (Host.absf (subf y (broadcastInDim S128x4x8 ![] bcast_S_S128x4x8 (constant S_ .f32 0x00000000#32))))))))

theorem steps_apply (y : FVec Ideal S128x4x8 .f32) (i : S128x4x8.Idx) : steps y i = splus (y i) := by
  unfold steps splus; pointwise
  rw [if_neg (fun h => h rfl)]
  rfl

def stepsIn (p : FVec Ideal S128x4x2312 .f32) (db : FVec Ideal S8 .f32) : FVec Ideal S128x4x8 .f32 :=
  addf (extractStridedSlice S128x4x8 ![0, 0, 1536] p slices_S128x4x2312_S128x4x8_0_0_1536) (broadcastInDim S128x4x8 ![0, 1, 2] bcast_S1x1x8_S128x4x8_0_1_2 (broadcastInDim S1x1x8 ![2] bcast_S8_S1x1x8_2 db))

theorem steps_dt (p : FVec Ideal S128x4x2312 .f32) (db : FVec Ideal S8 .f32) (b : Fin 128) (t : Fin 4) (h : Fin 8) :
    steps (stepsIn p db) (ix3 b t h) = dt (fun t j => p (ix3 b t j)) (fun h => db (ix1 h)) t h := by
  rw [steps_apply]; unfold stepsIn dt; pointwise

/-- The decays' running sums. -/
def sums (d : FVec Ideal S128x4x8 .f32) (al : FVec Ideal S8 .f32) : FVec Ideal S128x2x4x4 .f32 :=
  Host.reduceWindowAdd ![1, 1, 1, 4] ![1, 1, 1, 1] ![0, 0, 0, 3] ![0, 0, 0, 0]
    (transpose S128x2x4x4 [0, 2, 3, 1] (shapeCast _ (mulf d (broadcastInDim S128x4x8 ![0, 1, 2] bcast_S1x1x8_S128x4x8_0_1_2 (broadcastInDim S1x1x8 ![2] bcast_S8_S1x1x8_2 (Host.negf (Host.exp al))))) shapeCasts_S128x4x8_S128x4x2x4) transposes_S128x4x2x4_S128x2x4x4_0_2_3_1)
    (broadcastInDim S_ ![] bcast_S_S_ (constant S_ .f32 0x00000000#32)) reduceWindows_S128x2x4x4_S128x2x4x4_w1s1p0_0_w1s1p0_0_w1s1p0_0_w4s1p3_0 h_S_

theorem window_pos : ∀ (n : Fin 4) (a : Fin 4), ((⟨4, ![1, 1, 1, 4]⟩ : Shape).rowMajor.symm n a).val = if a = 3 then n.val else 0 := by decide

theorem window_apply (x : FVec Ideal S128x2x4x4 .f32) (v : FVec Ideal S_ .f32) (hv : ∀ i, v i = 0) (b : Fin 128) (g : Fin 2) (k t : Fin 4) :
    Host.reduceWindowAdd ![1, 1, 1, 4] ![1, 1, 1, 1] ![0, 0, 0, 3] ![0, 0, 0, 0] x v reduceWindows_S128x2x4x4_S128x2x4x4_w1s1p0_0_w1s1p0_0_w1s1p0_0_w4s1p3_0 h_S_ (ix4 b g k t)
      = ∑ s : Fin 4, if s ≤ t then x (ix4 b g k s) else 0 := by
  have term (n : Fin 4) (_ : Decidable (∀ (a : Fin 4), (![0, 0, 0, 3] : Fin 4 → ℕ) a ≤ (ix4 b g k t a).val * (![1, 1, 1, 1] : Fin 4 → ℕ) a + ((⟨4, ![1, 1, 1, 4]⟩ : Shape).rowMajor.symm n a).val
        ∧ (ix4 b g k t a).val * (![1, 1, 1, 1] : Fin 4 → ℕ) a + ((⟨4, ![1, 1, 1, 4]⟩ : Shape).rowMajor.symm n a).val - (![0, 0, 0, 3] : Fin 4 → ℕ) a < S128x2x4x4.size a)) : (if hin : ∀ (a : Fin 4), (![0, 0, 0, 3] : Fin 4 → ℕ) a ≤ (ix4 b g k t a).val * (![1, 1, 1, 1] : Fin 4 → ℕ) a + ((⟨4, ![1, 1, 1, 4]⟩ : Shape).rowMajor.symm n a).val
        ∧ (ix4 b g k t a).val * (![1, 1, 1, 1] : Fin 4 → ℕ) a + ((⟨4, ![1, 1, 1, 4]⟩ : Shape).rowMajor.symm n a).val - (![0, 0, 0, 3] : Fin 4 → ℕ) a < S128x2x4x4.size a then
        x fun a => ⟨_, (hin a).2⟩ else v (Shape.Idx.first h_S_)) = if h : 3 ≤ t.val + n.val then x (ix4 b g k ⟨t.val + n.val - 3, by omega⟩) else 0 := by
    by_cases h : 3 ≤ t.val + n.val
    · rw [dif_pos h, dif_pos]
      · refine congrArg x (funext fun a => Fin.ext ?_)
        dsimp only
        rw [window_pos]
        fin_cases a <;> simp [ix4]
      · intro a
        rw [window_pos]
        fin_cases a <;> simp [ix4] <;> omega
    · rw [dif_neg h, dif_neg]
      · exact hv _
      · intro hin
        have := (hin 3).1
        rw [window_pos] at this
        simp [ix4] at this
        omega
  refine (show _ = List.foldl (fun r (n : Fin 4) => r + (if h : 3 ≤ t.val + n.val then x (ix4 b g k ⟨t.val + n.val - 3, by omega⟩) else 0)) 0 (List.finRange 4) from ?_).trans ?_
  · unfold Host.reduceWindowAdd
    rw [Ideal.hostReduceWindowAdd_def]
    unfold Ideal.hostReduceWindowAdd Host.reduceWindow
    exact congrArg₂ (fun f z => List.foldl f z (List.finRange 4)) (funext fun r => funext fun n => congrArg (r + ·) (term n _)) (hv _)
  · rw [show List.finRange 4 = [0, 1, 2, 3] from rfl]
    simp only [List.foldl, Fin.sum_univ_four]
    fin_cases t <;> simp <;> rfl

theorem sums_apply (d : FVec Ideal S128x4x8 .f32) (al : FVec Ideal S8 .f32) (b : Fin 128) (g : Fin 2) (k t : Fin 4) :
    sums d al (ix4 b g k t) = cs (fun t h => d (ix3 b t h)) (fun h => al (ix1 h)) t ⟨g.val * 4 + k.val, by omega⟩ := by
  unfold sums cs
  refine (window_apply _ _ (fun i => by pointwise) b g k t).trans (Finset.sum_congr rfl fun s _ => ?_)
  pointwise

/-- The states. -/
def states (h0 : FVec Ideal S128x8x64x128 .f32) (z : FVec Ideal S128x4x1024 .f32) (d : FVec Ideal S128x4x8 .f32) (e : FVec Ideal S128x2x4x4 .f32) : FVec Ideal S128x2x4x64x128 .f32 :=
  addf (mulf (broadcastInDim S128x2x4x64x128 ![0, 1, 2, 3, 4] bcast_S128x2x4x1x1_S128x2x4x64x128_0_1_2_3_4 (broadcastInDim S128x2x4x1x1 ![0, 1, 2] bcast_S128x2x4_S128x2x4x1x1_0_1_2 (Host.exp (shapeCast _ (extractStridedSlice S128x2x4x1 ![0, 0, 0, 3] e slices_S128x2x4x4_S128x2x4x1_0_0_0_3) shapeCasts_S128x2x4x1_S128x2x4))))
      (shapeCast _ h0 shapeCasts_S128x8x64x128_S128x2x4x64x128))
    (Host.dotGeneral (F := Ideal) dot_S128x4x2x4x64_S128x4x2x128_S128x2x4x64x128_1_1_34_3_02_02 none
      (mulf (shapeCast _ (mulf (shapeCast S128x4x8x64 (extractStridedSlice S128x4x512 ![0, 0, 0] z slices_S128x4x1024_S128x4x512_0_0_0) shapeCasts_S128x4x512_S128x4x8x64)
          (broadcastInDim S128x4x8x64 ![0, 1, 2, 3] bcast_S128x4x8x1_S128x4x8x64_0_1_2_3 (broadcastInDim S128x4x8x1 ![0, 1, 2] bcast_S128x4x8_S128x4x8x1_0_1_2 d))) shapeCasts_S128x4x8x64_S128x4x2x4x64)
        (broadcastInDim S128x4x2x4x64 ![0, 1, 2, 3, 4] bcast_S128x4x2x4x1_S128x4x2x4x64_0_1_2_3_4 (broadcastInDim S128x4x2x4x1 ![0, 1, 2, 3] bcast_S128x4x2x4_S128x4x2x4x1_0_1_2_3 (transpose S128x4x2x4 [0, 3, 1, 2] (Host.exp (subf (broadcastInDim S128x2x4x4 ![0, 1, 2, 3] bcast_S128x2x4x1_S128x2x4x4_0_1_2_3 (extractStridedSlice S128x2x4x1 ![0, 0, 0, 3] e slices_S128x2x4x4_S128x2x4x1_0_0_0_3)) e)) transposes_S128x2x4x4_S128x4x2x4_0_3_1_2))))
      (shapeCast _ (extractStridedSlice S128x4x256 ![0, 0, 512] z slices_S128x4x1024_S128x4x256_0_0_512) shapeCasts_S128x4x256_S128x4x2x128))

theorem states_apply (h0 : FVec Ideal S128x8x64x128 .f32) (z : FVec Ideal S128x4x1024 .f32) (d : FVec Ideal S128x4x8 .f32) (e : FVec Ideal S128x2x4x4 .f32) (b : Fin 128) (g : Fin 2) (k : Fin 4) (q : Fin 64) (n : Fin 128) :
    states h0 z d e (ix5 b g k q n) = Ideal.exp (e (ix4 b g k 3)) * h0 (ix4 b ⟨g.val * 4 + k.val, by omega⟩ q n)
      + ∑ t : Fin 4, z (ix3 b t ⟨(g.val * 4 + k.val) * 64 + q.val, by omega⟩) * d (ix3 b t ⟨g.val * 4 + k.val, by omega⟩) * Ideal.exp (e (ix4 b g k 3) - e (ix4 b g k t))
        * z (ix3 b t ⟨512 + g.val * 128 + n.val, by omega⟩) := by
  unfold states; pointwise
  simp only [Nat.add_assoc]

/-- The states, every head's rows one after another. -/
def flat (h : FVec Ideal S128x2x4x64x128 .f32) : FVec Ideal S128x512x128 .f32 :=
  shapeCast _ (shapeCast S128x8x64x128 h shapeCasts_S128x2x4x64x128_S128x8x64x128) shapeCasts_S128x8x64x128_S128x512x128

theorem flat_apply (h : FVec Ideal S128x2x4x64x128 .f32) (b : Fin 128) (r : Fin 512) (n : Fin 128) :
    flat h (ix3 b r n) = h (ix5 b ⟨r.val / 256, by omega⟩ ⟨r.val / 64 % 4, by omega⟩ ⟨r.val % 64, by omega⟩ n) := by
  unfold flat; pointwise

/-- The last three steps, the step first. -/
def kept (u : FVec Ideal S128x7x1024 .f32) : FVec Ideal S3x128x1024 .f32 :=
  transpose S3x128x1024 [1, 0, 2] (extractStridedSlice S128x3x1024 ![0, 4, 0] u slices_S128x7x1024_S128x3x1024_0_4_0) transposes_S128x3x1024_S3x128x1024_1_0_2

theorem kept_apply (s : FVec Ideal S128x3x1024 .f32) (p : FVec Ideal S128x4x2312 .f32) (j : Fin 3) (b : Fin 128) (c : Fin 1024) :
    kept (ups s p) (ix3 j b c) = p (ix3 b ⟨j.val + 1, by omega⟩ ⟨512 + c.val, by omega⟩) := by
  unfold kept
  pointwise [ups_apply]
  unfold up
  rw [dif_neg (by omega), dif_pos (by omega)]
  congr 3
  omega

/-- The window after the four tokens. -/
def slid (c : FVec Ideal S128x128x2x64 .f32) (n : FVec Ideal S128x4x128 .f32) : FVec Ideal S128x2x64x128 .f32 :=
  transpose S128x2x64x128 [0, 2, 3, 1] (extractStridedSlice S128x128x2x64 ![0, 4, 0, 0] (concatenate S128x132x2x64 1 [⟨S128x128x2x64, c⟩, ⟨S128x4x2x64, shapeCast _ n shapeCasts_S128x4x128_S128x4x2x64⟩] concatenates_S128x128x2x64_S128x4x2x64_S128x132x2x64_d1) slices_S128x132x2x64_S128x128x2x64_0_4_0_0) transposes_S128x128x2x64_S128x2x64x128_0_2_3_1

theorem slid_apply (c : FVec Ideal S128x128x2x64 .f32) (n : FVec Ideal S128x4x128 .f32) (b : Fin 128) (g : Fin 2) (d : Fin 64) (l : Fin 128) :
    slid c n (ix4 b g d l) = if h : l.val < 124 then c (ix4 b ⟨l.val + 4, by omega⟩ g d) else n (ix3 b ⟨l.val - 124, by omega⟩ ⟨g.val * 64 + d.val, by omega⟩) := by
  unfold slid; pointwise
  by_cases h : l.val < 124
  · rw [dif_pos h, dif_pos (by omega)]
    congr 3; omega
  · rw [dif_neg h, dif_neg (by omega)]
    congr 3; omega

/-- The columns of the keys and of the values. -/
def keys (p : FVec Ideal S128x4x2312 .f32) : FVec Ideal S128x4x128 .f32 := extractStridedSlice S128x4x128 ![0, 0, 2056] p slices_S128x4x2312_S128x4x128_0_0_2056
def vals (p : FVec Ideal S128x4x2312 .f32) : FVec Ideal S128x4x128 .f32 := extractStridedSlice S128x4x128 ![0, 0, 2184] p slices_S128x4x2312_S128x4x128_0_0_2184

theorem keys_apply (p : FVec Ideal S128x4x2312 .f32) (b : Fin 128) (t : Fin 4) (j : Fin 128) : keys p (ix3 b t j) = p (ix3 b t ⟨2056 + j.val, by omega⟩) := by
  unfold keys; pointwise
theorem vals_apply (p : FVec Ideal S128x4x2312 .f32) (b : Fin 128) (t : Fin 4) (j : Fin 128) : vals p (ix3 b t j) = p (ix3 b t ⟨2184 + j.val, by omega⟩) := by
  unfold vals; pointwise

end Cert.Mix
-- ==== Proof.MixValue.lean ====
module

public import proofs.«01_k».proof.Defs
public import proofs.«01_k».proof.Proof.MixArrays
public import proofs.«01_k».proof.Proof.MixRef
public import proofs.«01_k».proof.Proof.Gen.Pre_finite_projection

@[expose] public section

set_option maxRecDepth 16384

noncomputable section

namespace Cert.Mix

open Idealize.ShloMosaic Idealize.ShloMosaic.TcCoe Idealize.SL.Sem
open Cert.KernelIdeal Cert.KernelIdeal.Gen Cert.Layer

/-! ## The precondition, read at an entry -/

theorem finite_args {a0 : Vec Ideal S128x4x1024 .f32} {a1 : Vec Ideal S128x3x1024 .f32} {a2 : Vec Ideal S128x8x64x128 .f32} {a3 a4 : Vec Ideal S128x128x2x64 .f32}
    {a5 : Vec Ideal S1024 .f32} {a6 : Vec Ideal S1024x2312 .f32} {a7 : Vec Ideal S4x1024 .f32} {a8 : Vec Ideal S1024 .f32} {a9 a10 a11 : Vec Ideal S8 .f32}
    {a12 : Vec Ideal S512 .f32} {a13 : Vec Ideal S8 .f32} {a14 : Vec Ideal S1024x1024 .f32} {a15 : Vec Ideal S1024 .f32}
    (h : ∀ j, Cert.Pre_finite_projection.fn (F := Ideal) a0 a1 a2 a3 a4 a5 a6 a7 a8 a9 a10 a11 a12 a13 a14 a15 j = 1#1) :
    (∀ i, IsR (a0 i)) ∧ (∀ i, IsR (a5 i)) ∧ (∀ i, IsR (a6 i)) ∧ (∀ i, IsR (a9 i)) := by
  have h := h (fun a => a.elim0)
  dsimp only [Cert.Pre_finite_projection.fn, Cert.Pre_finite_projection.fn_part1] at h
  obtain ⟨h, h3⟩ := IntOp.andi_eq_one.1 h
  obtain ⟨h, h2⟩ := IntOp.andi_eq_one.1 h
  obtain ⟨h0, h1⟩ := IntOp.andi_eq_one.1 h
  exact ⟨isR_of_all _ _ (fun _ => rfl) _ _ _ _ h0, isR_of_all _ _ (fun _ => rfl) _ _ _ _ h1, isR_of_all _ _ (fun _ => rfl) _ _ _ _ h2,
    isR_of_all _ _ (fun _ => rfl) _ _ _ _ h3⟩

/-! ## The reference's results at an entry -/

section Ref
variable (x : FVec Ideal S128x4x1024 .f32) (sc : FVec Ideal S128x3x1024 .f32) (h0 : FVec Ideal S128x8x64x128 .f32) (kc : FVec Ideal S128x128x2x64 .f32) (g : FVec Ideal S1024 .f32)
  (w : FVec Ideal S1024x2312 .f32) (cw : FVec Ideal S4x1024 .f32) (cb : FVec Ideal S1024 .f32) (db al : FVec Ideal S8 .f32)

theorem proj_rows (b : Fin 128) : (fun t j => proj x g w (ix3 b t j)) = rowP x g w b := funext fun t => funext fun j => proj_apply x g w b t j

theorem kept_eq : (fun i : S3x128x1024.Idx => keptOut x g w (i 0) (i 1) (i 2)) = kept (ups sc (proj x g w)) := by
  funext i
  obtain ⟨j, b, k, rfl⟩ : ∃ (j : Fin 3) (b : Fin 128) (k : Fin 1024), i = ix3 j b k := ⟨i 0, i 1, i 2, eq_ix3 i⟩
  exact ((kept_apply sc _ j b k).trans (proj_apply x g w b _ _)).symm

theorem slid_keys : (fun i : S128x2x64x128.Idx => slideOut kc x g w 2056 (by norm_num) (i 0) (i 1) (i 2) (i 3)) = slid kc (keys (proj x g w)) := by
  funext i
  obtain ⟨b, r, d, l, rfl⟩ : ∃ (b : Fin 128) (r : Fin 2) (d : Fin 64) (l : Fin 128), i = ix4 b r d l := ⟨i 0, i 1, i 2, i 3, eq_ix4 i⟩
  rw [slid_apply]
  refine dite_congr rfl (fun _ => rfl) fun _ => ?_
  exact ((keys_apply _ b ⟨l.val - 124, by omega⟩ ⟨r.val * 64 + d.val, by omega⟩).trans (proj_apply x g w b _ _)).symm

theorem slid_vals : (fun i : S128x2x64x128.Idx => slideOut kc x g w 2184 (by norm_num) (i 0) (i 1) (i 2) (i 3)) = slid kc (vals (proj x g w)) := by
  funext i
  obtain ⟨b, r, d, l, rfl⟩ : ∃ (b : Fin 128) (r : Fin 2) (d : Fin 64) (l : Fin 128), i = ix4 b r d l := ⟨i 0, i 1, i 2, i 3, eq_ix4 i⟩
  rw [slid_apply]
  refine dite_congr rfl (fun _ => rfl) fun _ => ?_
  exact ((vals_apply _ b ⟨l.val - 124, by omega⟩ ⟨r.val * 64 + d.val, by omega⟩).trans (proj_apply x g w b _ _)).symm

/-- The state, the reference's two group indices read as one head. -/
theorem state_eq : (fun i : S128x512x128.Idx => stateOut x sc h0 g w cw cb db al (i 0) (i 1) (i 2))
    = flat (states h0 (acted (pre (ups sc (proj x g w)) cw cb)) (steps (stepsIn (proj x g w) db)) (sums (steps (stepsIn (proj x g w) db)) al)) := by
  funext i
  obtain ⟨b, r, n, rfl⟩ : ∃ (b : Fin 128) (r : Fin 512) (n : Fin 128), i = ix3 b r n := ⟨i 0, i 1, i 2, eq_ix3 i⟩
  rw [flat_apply, states_apply]
  have hz (t : Fin 4) (k : Fin 1024) : acted (pre (ups sc (proj x g w)) cw cb) (ix3 b t k) = rowZ x sc g w cw cb b t k := by
    rw [acted_apply, pre_apply, proj_rows]; rfl
  have hd (t : Fin 4) (h : Fin 8) : steps (stepsIn (proj x g w) db) (ix3 b t h) = dt (rowP x g w b) (fun h => db (ix1 h)) t h := by
    rw [steps_dt, proj_rows]
  have hs (u : Fin 2) (k t : Fin 4) : sums (steps (stepsIn (proj x g w) db)) al (ix4 b u k t)
      = cs (dt (rowP x g w b) (fun h => db (ix1 h))) (fun h => al (ix1 h)) t ⟨u.val * 4 + k.val, by omega⟩ := by
    rw [sums_apply, funext fun t => funext fun h => hd t h]
  have head : r.val / 256 * 4 + r.val / 64 % 4 = r.val / 64 := by omega
  have group : r.val / 64 / 4 = r.val / 256 := by omega
  simp only [hz, hd, hs, head]
  change stateOut x sc h0 g w cw cb db al b r n = _
  unfold stateOut state
  simp only [group]
end Ref

theorem result_state (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v93 m' c = flat (states (m' ((c.tc : Thread Cert.ReferenceIdeal.nD Cert.ReferenceIdeal.τ).loc Cert.ReferenceIdeal.main_arg2)) (acted (pre (ups (m' ((c.tc : Thread Cert.ReferenceIdeal.nD Cert.ReferenceIdeal.τ).loc Cert.ReferenceIdeal.main_arg1)) (proj (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)))) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (steps (stepsIn (proj (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))) (m' ((c.tc : Thread Cert.ReferenceIdeal.nD Cert.ReferenceIdeal.τ).loc Cert.ReferenceIdeal.main_arg9)))) (sums (steps (stepsIn (proj (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))) (m' ((c.tc : Thread Cert.ReferenceIdeal.nD Cert.ReferenceIdeal.τ).loc Cert.ReferenceIdeal.main_arg9)))) (m' ((c.tc : Thread Cert.ReferenceIdeal.nD Cert.ReferenceIdeal.τ).loc Cert.ReferenceIdeal.main_arg10)))) := by
  unfold Cert.ReferenceIdeal.Value.res_main_v93 flat states acted pre ups steps sums stepsIn proj normed
  rfl

set_option maxHeartbeats 4000000 in
theorem claim : Cert.algebraic_KernelIdeal_ReferenceIdeal_pre_finite_projection := by
  pair_intro
  · run_from Cert.KernelIdeal.Value.run_blocks m g
  · refine θ_run_mono (Cert.ReferenceIdeal.Value.run m' g') ?_
    intro r hr c
    obtain ⟨h1, h2, h3, h4, hrest⟩ := hr c
    obtain ⟨a0, a1, a2, a3, a4, a5, a6, a7, a8, a9, a10, -⟩ := hagree c
    obtain ⟨hx, hg, hw, hb⟩ := finite_args (congrFun (hpre c))
    have e2 : r.2.mem ((c.tc : Thread Cert.ReferenceIdeal.nD Cert.ReferenceIdeal.τ).loc Cert.ReferenceIdeal.main_v94) = kept (ups (m' ((c.tc : Thread Cert.ReferenceIdeal.nD Cert.ReferenceIdeal.τ).loc Cert.ReferenceIdeal.main_arg1)) (proj (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)))) := h2.trans (by unfold kept ups proj normed; rfl)
    have e3 : r.2.mem ((c.tc : Thread Cert.ReferenceIdeal.nD Cert.ReferenceIdeal.τ).loc Cert.ReferenceIdeal.main_v96) = slid (m' ((c.tc : Thread Cert.ReferenceIdeal.nD Cert.ReferenceIdeal.τ).loc Cert.ReferenceIdeal.main_arg3)) (keys (proj (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)))) := h3.trans (by unfold slid keys proj normed; rfl)
    have e4 : r.2.mem ((c.tc : Thread Cert.ReferenceIdeal.nD Cert.ReferenceIdeal.τ).loc Cert.ReferenceIdeal.main_v98) = slid (m' ((c.tc : Thread Cert.ReferenceIdeal.nD Cert.ReferenceIdeal.τ).loc Cert.ReferenceIdeal.main_arg4)) (vals (proj (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)))) := h4.trans (by unfold slid vals proj normed; rfl)
    have e1 := h1.trans (result_state m' c)
    rw [a0, a1, a2, a5, a6, a7, a8, a9, a10] at e1
    rw [a0, a1, a5, a6] at e2
    rw [a0, a3, a5, a6] at e3
    rw [a0, a4, a5, a6] at e4
    refine ⟨e1.trans ?_, e2.trans ?_, e3.trans ?_, e4.trans ?_, hrest⟩
    · exact (state_eq _ _ _ _ _ _ _ _ _).symm.trans (arr17 m c hx hg hw hb).symm
    · exact (kept_eq _ _ _ _).symm.trans (arr18 m c).symm
    · exact (slid_keys _ _ _ _).symm.trans (arr19 m c hx hg hw).symm
    · exact (slid_vals _ _ _ _).symm.trans (arr20 m c hx hg hw).symm
end Cert.Mix
-- ==== Proof.XattnBlock.lean ====
module

public import proofs.«01_k».proof.Defs
public import proofs.«01_k».proof.Proof.Common
public import proofs.«01_k».proof.Proof.Gen.Kernel2Ideal.Value
public import proofs.«01_k».proof.Proof.Gen.Reference2Ideal.Run
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

namespace Cert.Xattn

open Idealize.ShloMosaic Idealize.ShloMosaic.TcCoe Idealize.SL.Sem
open Cert.Kernel2Ideal Cert.Kernel2Ideal.Gen Cert.Layer

/-! ## The kernel's function of one row of the hidden state -/

/-- The column of lane `d` of head `n`, the heads standing side by side. -/
def col (n : Fin 4) (d : Fin 256) : Fin 1024 := ⟨n.val * 256 + d.val, by omega⟩

theorem col_div_mod (k : Fin 1024) : col ⟨k.val / 256, by omega⟩ ⟨k.val % 256, by omega⟩ = k := by
  ext; simp only [col]; omega

/-- The largest score. -/
def top (s : Fin 256 → EReal) : EReal := Finset.fold max (Ideal.ofBits FTy.f32 4286578688#32) s Finset.univ

/-- The softmax over the memory's positions, by one reciprocal of the sum. -/
def sm (s : Fin 256 → EReal) (m : Fin 256) : EReal :=
  Ideal.exp (s m - top s) * Ideal.div 1 (∑ m, Ideal.exp (s m - top s))

section Row
variable (x g : Fin 1024 → EReal) (w : Fin 1024 → Fin 1024 → EReal) (K V : Fin 256 → Fin 1024 → EReal)
  (wo : Fin 1024 → Fin 1024 → EReal) (g' : Fin 1024 → EReal)

/-- The query's column `j`. -/
def kq (j : Fin 1024) : EReal := ∑ k, nrm x g k * w k j
/-- The score of head `n` at the memory's position `m`. -/
def ks (n : Fin 4) (m : Fin 256) : EReal := ∑ d, kq x g w (col n d) * K m (col n d)
/-- The attention's output at lane `d` of head `n`. -/
def ko (n : Fin 4) (d : Fin 256) : EReal := ∑ m, sm (ks x g w K n) m * V m (col n d)
/-- The output projection's column `j`. -/
def kc (j : Fin 1024) : EReal := ∑ k : Fin 1024, ko x g w K V ⟨k.val / 256, by omega⟩ ⟨k.val % 256, by omega⟩ * wo k j
/-- The row after the residual addition, at column `j`. -/
def ky (j : Fin 1024) : EReal := x j + nrm (kc x g w K V wo) g' j
end Row

/-! ## What each vector of the kernel's body holds -/

theorem normed (x : Vec Ideal S1x1x512x1024 .f32) (g : Vec Ideal S1x1024 .f32) (i : Fin 512) (k : Fin 1024) :
    k0_pay14 x g (ix2 i k) = nrm (fun k => x (ix4 0 0 i k)) (fun k => g (ix2 0 k)) k := by
  pointwise [k0_pay14, k0_pay13]; rfl

theorem normed' (x : Vec Ideal S1x1x512x1024 .f32) (g : Vec Ideal S1x1024 .f32) (i : Fin 512) (k : Fin 1024) :
    k0_pay3 x g (ix2 i k) = nrm (fun k => x (ix4 0 0 i k)) (fun k => g (ix2 0 k)) k := by
  pointwise [k0_pay3, k0_pay2]; rfl

theorem pay4_apply (x : Vec Ideal S1x1x512x1024 .f32) (g : Vec Ideal S1x1024 .f32) (w : Vec Ideal S1024x256 .bf16) (i : Fin 512) (d : Fin 256) :
    k0_pay4 x g w (ix2 i d) = ∑ k, nrm (fun k => x (ix4 0 0 i k)) (fun k => g (ix2 0 k)) k * w (ix2 k d) := by
  pointwise [k0_pay4, normed']

theorem pay5_apply (x : Vec Ideal S1x1x512x1024 .f32) (g : Vec Ideal S1x1024 .f32) (w : Vec Ideal S1024x256 .bf16) (i : Fin 512) (d : Fin 256) :
    k0_pay5 x g w (ix2 i d) = ∑ k, nrm (fun k => x (ix4 0 0 i k)) (fun k => g (ix2 0 k)) k * w (ix2 k d) := by
  pointwise [k0_pay5, normed']

theorem pay6_apply (x : Vec Ideal S1x1x512x1024 .f32) (g : Vec Ideal S1x1024 .f32) (w : Vec Ideal S1024x256 .bf16) (i : Fin 512) (d : Fin 256) :
    k0_pay6 x g w (ix2 i d) = ∑ k, nrm (fun k => x (ix4 0 0 i k)) (fun k => g (ix2 0 k)) k * w (ix2 k d) := by
  pointwise [k0_pay6, normed']

theorem pay8_apply (x : Vec Ideal S1x1x512x1024 .f32) (g : Vec Ideal S1x1024 .f32) (w : Vec Ideal S1024x256 .bf16) (i : Fin 512) (d : Fin 256) :
    k0_pay8 x g w (ix2 i d) = ∑ k, nrm (fun k => x (ix4 0 0 i k)) (fun k => g (ix2 0 k)) k * w (ix2 k d) := by
  pointwise [k0_pay8, normed']

theorem pay17_apply (h : FVec Ideal S512x1024 .bf16) (w : Vec Ideal S1024x256 .bf16) (i : Fin 512) (d : Fin 256) :
    k0_pay17 h w (ix2 i d) = ∑ k, h (ix2 i k) * w (ix2 k d) := by
  pointwise [k0_pay17]

theorem pay22_apply (h : FVec Ideal S512x1024 .bf16) (w : Vec Ideal S1024x256 .bf16) (i : Fin 512) (d : Fin 256) :
    k0_pay22 h w (ix2 i d) = ∑ k, h (ix2 i k) * w (ix2 k d) := by
  pointwise [k0_pay22]

theorem pay24_apply (h : FVec Ideal S512x1024 .bf16) (w : Vec Ideal S1024x256 .bf16) (i : Fin 512) (d : Fin 256) :
    k0_pay24 h w (ix2 i d) = ∑ k, h (ix2 i k) * w (ix2 k d) := by
  pointwise [k0_pay24]

theorem pay26_apply (h : FVec Ideal S512x1024 .bf16) (w : Vec Ideal S1024x256 .bf16) (i : Fin 512) (d : Fin 256) :
    k0_pay26 h w (ix2 i d) = ∑ k, h (ix2 i k) * w (ix2 k d) := by
  pointwise [k0_pay26]

theorem pay27_apply (h : FVec Ideal S512x1024 .bf16) (w : Vec Ideal S1024x256 .bf16) (i : Fin 512) (d : Fin 256) :
    k0_pay27 h w (ix2 i d) = ∑ k, h (ix2 i k) * w (ix2 k d) := by
  pointwise [k0_pay27]

theorem pay31_apply (h : FVec Ideal S512x1024 .bf16) (w : Vec Ideal S1024x256 .bf16) (i : Fin 512) (d : Fin 256) :
    k0_pay31 h w (ix2 i d) = ∑ k, h (ix2 i k) * w (ix2 k d) := by
  pointwise [k0_pay31]

theorem pay10_apply (q : FVec Ideal S512x256 .f32) (K : Vec Ideal S1x1x256x256 .bf16) (i : Fin 512) (m : Fin 256) :
    k0_pay10 q K (ix2 i m) = ∑ d, q (ix2 i d) * K (ix4 0 0 m d) := by
  pointwise [k0_pay10]

theorem pay11_apply (q : FVec Ideal S512x256 .f32) (K : Vec Ideal S1x1x256x256 .bf16) (i : Fin 512) (m : Fin 256) :
    k0_pay11 q K (ix2 i m) = ∑ d, q (ix2 i d) * K (ix4 0 0 m d) := by
  pointwise [k0_pay11]

theorem pay12_apply (q : FVec Ideal S512x256 .f32) (K : Vec Ideal S1x1x256x256 .bf16) (i : Fin 512) (m : Fin 256) :
    k0_pay12 q K (ix2 i m) = ∑ d, q (ix2 i d) * K (ix4 0 0 m d) := by
  pointwise [k0_pay12]

theorem pay28_apply (q : FVec Ideal S512x256 .f32) (K : Vec Ideal S1x1x256x256 .bf16) (i : Fin 512) (m : Fin 256) :
    k0_pay28 q K (ix2 i m) = ∑ d, q (ix2 i d) * K (ix4 0 0 m d) := by
  pointwise [k0_pay28]

theorem pay29_apply (q : FVec Ideal S512x256 .f32) (K : Vec Ideal S1x1x256x256 .bf16) (i : Fin 512) (m : Fin 256) :
    k0_pay29 q K (ix2 i m) = ∑ d, q (ix2 i d) * K (ix4 0 0 m d) := by
  pointwise [k0_pay29]

theorem pay30_apply (q : FVec Ideal S512x256 .f32) (K : Vec Ideal S1x1x256x256 .bf16) (i : Fin 512) (m : Fin 256) :
    k0_pay30 q K (ix2 i m) = ∑ d, q (ix2 i d) * K (ix4 0 0 m d) := by
  pointwise [k0_pay30]

theorem pay16_apply (q : FVec Ideal S512x256 .f32) (K : Vec Ideal S1x1x256x256 .bf16) (i : Fin 512) (j : Fin 1) :
    k0_pay16 q K (ix2 i j) = top fun m => k0_pay10 q K (ix2 i m) := by
  pointwise [k0_pay16]; rfl

theorem pay32_apply (q : FVec Ideal S512x256 .f32) (K : Vec Ideal S1x1x256x256 .bf16) (i : Fin 512) (j : Fin 1) :
    k0_pay32 q K (ix2 i j) = top fun m => k0_pay28 q K (ix2 i m) := by
  pointwise [k0_pay32]; rfl

theorem pay33_apply (q : FVec Ideal S512x256 .f32) (K : Vec Ideal S1x1x256x256 .bf16) (i : Fin 512) (j : Fin 1) :
    k0_pay33 q K (ix2 i j) = top fun m => k0_pay29 q K (ix2 i m) := by
  pointwise [k0_pay33]; rfl

theorem pay34_apply (q : FVec Ideal S512x256 .f32) (K : Vec Ideal S1x1x256x256 .bf16) (i : Fin 512) (j : Fin 1) :
    k0_pay34 q K (ix2 i j) = top fun m => k0_pay30 q K (ix2 i m) := by
  pointwise [k0_pay34]; rfl

theorem pay7_apply (K : Vec Ideal S1x1x256x256 .bf16) (m d : Fin 256) :
    k0_pay7 K (ix2 m d) = K (ix4 0 0 m d) := by
  pointwise [k0_pay7]

theorem pay9_apply (K : FVec Ideal S256x256 .bf16) (q : FVec Ideal S512x256 .bf16) (z : FVec Ideal S512x256 .f32) (i : Fin 512) (m : Fin 256) :
    k0_pay9 K q z (ix2 i m) = z (ix2 i m) + ∑ d, q (ix2 i d) * K (ix2 m d) := by
  pointwise [k0_pay9]

theorem pay15_apply (K : FVec Ideal S256x256 .bf16) (q : FVec Ideal S512x256 .bf16) (z : FVec Ideal S512x256 .f32) (i : Fin 512) (j : Fin 1) :
    k0_pay15 K q z (ix2 i j) = top fun m => k0_pay9 K q z (ix2 i m) := by
  pointwise [k0_pay15]; rfl

theorem pay35_apply (q : FVec Ideal S512x256 .f32) (K : Vec Ideal S1x1x256x256 .bf16) (i : Fin 512) (m : Fin 256) :
    k0_pay36 (k0_pay35 q K) (ix2 i m) = sm (fun m => ∑ d, q (ix2 i d) * K (ix4 0 0 m d)) m := by
  pointwise [k0_pay36, k0_pay35]; rfl

theorem pay18_apply (s : FVec Ideal S512x256 .f32) (mx : FVec Ideal S512x1 .f32) (i : Fin 512) (m : Fin 256)
    (h : mx (ix2 i 0) = top fun m => s (ix2 i m)) : k0_pay18 s mx (ix2 i m) = sm (fun m => s (ix2 i m)) m := by
  pointwise [k0_pay18, h]; rfl

theorem pay19_apply (s : FVec Ideal S512x256 .f32) (mx : FVec Ideal S512x1 .f32) (i : Fin 512) (m : Fin 256)
    (h : mx (ix2 i 0) = top fun m => s (ix2 i m)) : k0_pay19 s mx (ix2 i m) = sm (fun m => s (ix2 i m)) m := by
  pointwise [k0_pay19, h]; rfl

theorem pay37_apply (s : FVec Ideal S512x256 .f32) (mx : FVec Ideal S512x1 .f32) (i : Fin 512) (m : Fin 256)
    (h : mx (ix2 i 0) = top fun m => s (ix2 i m)) : k0_pay37 s mx (ix2 i m) = sm (fun m => s (ix2 i m)) m := by
  pointwise [k0_pay37, h]; rfl

theorem pay38_apply (s : FVec Ideal S512x256 .f32) (mx : FVec Ideal S512x1 .f32) (i : Fin 512) (m : Fin 256)
    (h : mx (ix2 i 0) = top fun m => s (ix2 i m)) : k0_pay38 s mx (ix2 i m) = sm (fun m => s (ix2 i m)) m := by
  pointwise [k0_pay38, h]; rfl

theorem pay39_apply (s : FVec Ideal S512x256 .f32) (mx : FVec Ideal S512x1 .f32) (i : Fin 512) (m : Fin 256)
    (h : mx (ix2 i 0) = top fun m => s (ix2 i m)) : k0_pay39 s mx (ix2 i m) = sm (fun m => s (ix2 i m)) m := by
  pointwise [k0_pay39, h]; rfl

theorem pay20_apply (s : FVec Ideal S512x256 .f32) (i : Fin 512) (m : Fin 256) :
    k0_pay20 s (ix2 i m) = sm (fun m => s (ix2 i m)) m := by
  pointwise [k0_pay20]; rfl

theorem pay21_apply (s : FVec Ideal S512x256 .f32) (i : Fin 512) (m : Fin 256) :
    k0_pay21 s (ix2 i m) = sm (fun m => s (ix2 i m)) m := by
  pointwise [k0_pay21]; rfl

theorem pay23_apply (p0 p1 p2 p3 : FVec Ideal S512x256 .bf16) (V0 V1 V2 V3 : FVec Ideal S1x1x256x256 .bf16) (i : Fin 512) (n : Fin 4) (d : Fin 256) :
    k0_pay23 p0 p1 p2 p3 V0 V1 V2 V3 (ix2 i (col n d))
      = ∑ m, ![fun m => p0 (ix2 i m), fun m => p1 (ix2 i m), fun m => p2 (ix2 i m), fun m => p3 (ix2 i m)] n m
        * ![fun m => V0 (ix4 0 0 m d), fun m => V1 (ix4 0 0 m d), fun m => V2 (ix4 0 0 m d), fun m => V3 (ix4 0 0 m d)] n m := by
  unfold col
  fin_cases n <;> pointwise [k0_pay23]
  · rw [dif_neg (by omega), dif_neg (by omega), dif_pos (by omega)]
    simp only [show 512 + d.val - 256 - 256 = d.val by omega]
  · rw [dif_neg (by omega), dif_neg (by omega), dif_neg (by omega)]
    simp only [show 768 + d.val - 256 - 256 - 256 = d.val by omega]

theorem pay44_apply (p0 p1 p2 p3 : FVec Ideal S512x256 .bf16) (V0 V1 V2 V3 : FVec Ideal S1x1x256x256 .bf16) (i : Fin 512) (n : Fin 4) (d : Fin 256) :
    k0_pay44 p0 p1 p2 p3 V0 V1 V2 V3 (ix2 i (col n d))
      = ∑ m, ![fun m => p0 (ix2 i m), fun m => p1 (ix2 i m), fun m => p2 (ix2 i m), fun m => p3 (ix2 i m)] n m
        * ![fun m => V0 (ix4 0 0 m d), fun m => V1 (ix4 0 0 m d), fun m => V2 (ix4 0 0 m d), fun m => V3 (ix4 0 0 m d)] n m := by
  unfold col
  fin_cases n <;> pointwise [k0_pay44]
  · rw [dif_neg (by omega), dif_neg (by omega), dif_pos (by omega)]
    simp only [show 512 + d.val - 256 - 256 = d.val by omega]
  · rw [dif_neg (by omega), dif_neg (by omega), dif_neg (by omega)]
    simp only [show 768 + d.val - 256 - 256 - 256 = d.val by omega]

theorem pay40_apply (h : FVec Ideal S512x1024 .bf16) (c0 c1 c2 : FVec Ideal S512x256 .f32) (w : Vec Ideal S1024x256 .bf16) (i : Fin 512) (n : Fin 4) (d : Fin 256) :
    k0_pay40 h c0 c1 c2 w (ix2 i (col n d))
      = ![c0 (ix2 i d), c1 (ix2 i d), c2 (ix2 i d), ∑ k, h (ix2 i k) * w (ix2 k d)] n := by
  unfold col
  fin_cases n <;> pointwise [k0_pay40]
  · rw [dif_neg (by omega), dif_neg (by omega), dif_pos (by omega)]
    simp only [show 512 + d.val - 256 - 256 = d.val by omega]
  · rw [dif_neg (by omega), dif_neg (by omega), dif_neg (by omega)]
    simp only [show 768 + d.val - 256 - 256 - 256 = d.val by omega]

/-- The output projection in four blocks of columns is the projection by the whole matrix. -/
theorem proj_apply (h : FVec Ideal S512x1024 .bf16) (w0 w1 w2 w3 : Vec Ideal S1024x256 .bf16) (W : Fin 1024 → Fin 1024 → EReal)
    (hW : ∀ k n d, W k (col n d) = ![w0 (ix2 k d), w1 (ix2 k d), w2 (ix2 k d), w3 (ix2 k d)] n) (i : Fin 512) (j : Fin 1024) :
    k0_pay40 h (k0_pay27 h w0) (k0_pay27 h w1) (k0_pay27 h w2) w3 (ix2 i j) = ∑ k, h (ix2 i k) * W k j := by
  rw [← col_div_mod j]
  generalize (⟨j.val / 256, by omega⟩ : Fin 4) = n
  generalize (⟨j.val % 256, by omega⟩ : Fin 256) = d
  simp only [pay40_apply, hW, pay27_apply]
  fin_cases n <;> rfl

theorem pay43_apply (x c : FVec Ideal S512x1024 .f32) (g : FVec Ideal S1x1024 .f32) (s : FVec Ideal S512 .f32) (i : Fin 512) (j : Fin 1024)
    (C : Fin 1024 → EReal) (hC : ∀ j, c (ix2 i j) = C j) (hs : s (ix1 i) = ∑ j, C j * C j) :
    k0_pay43 x c g s (ix4 0 0 i j) = x (ix2 i j) + nrm C (fun k => g (ix2 0 k)) j := by
  pointwise [k0_pay43, hs, hC]; rfl

/-- The body from the attention's output on: the projection, its norm, the residual. -/
theorem tail_apply (x : Vec Ideal S1x1x512x1024 .f32) (h : FVec Ideal S512x1024 .bf16) (w0 w1 w2 w3 : Vec Ideal S1024x256 .bf16)
    (g : Vec Ideal S1x1024 .f32) (W : Fin 1024 → Fin 1024 → EReal)
    (hW : ∀ k n d, W k (col n d) = ![w0 (ix2 k d), w1 (ix2 k d), w2 (ix2 k d), w3 (ix2 k d)] n) (i : Fin 512) (j : Fin 1024) :
    k0_pay43 (k0_pay2 x) (k0_pay40 h (k0_pay27 h w0) (k0_pay27 h w1) (k0_pay27 h w2) w3) (k0_pay41 g)
      (k0_pay42 h (k0_pay27 h w0) (k0_pay27 h w1) (k0_pay27 h w2) w3) (ix4 0 0 i j)
      = x (ix4 0 0 i j) + nrm (fun j => ∑ k, h (ix2 i k) * W k j) (fun k => g (ix2 0 k)) j := by
  rw [pay43_apply _ _ _ _ i j (fun j => ∑ k, h (ix2 i k) * W k j) (fun j => proj_apply h w0 w1 w2 w3 W hW i j)]
  · pointwise [k0_pay2, k0_pay41]
  · pointwise [k0_pay42]
    simp only [proj_apply h w0 w1 w2 w3 W hW]

theorem pay46_eq (x : Vec Ideal S1x1x512x1024 .f32) (h : FVec Ideal S512x1024 .bf16) (w0 w1 w2 w3 : Vec Ideal S1024x256 .bf16) (g : Vec Ideal S1x1024 .f32) :
    k0_pay46 (k0_pay13 x) h (k0_pay45 w0) (constant S512x256 .f32 0x00000000#32) w1 w2 w3 g
      = k0_pay43 (k0_pay2 x) (k0_pay40 h (k0_pay27 h w0) (k0_pay27 h w1) (k0_pay27 h w2) w3) (k0_pay41 g)
      (k0_pay42 h (k0_pay27 h w0) (k0_pay27 h w1) (k0_pay27 h w2) w3) := by
  unfold k0_pay46 k0_pay13 k0_pay45 k0_pay43 k0_pay2 k0_pay42 k0_pay40 k0_pay27 k0_pay41
  rfl

/-! ## The two halves of the output block -/

section Block
variable (x0 : Vec Ideal S2x1x512x1024 .f32) (x1 : Vec Ideal S1x1024 .f32) (x2 : Vec Ideal S1024x1024 .bf16) (x3 x4 : Vec Ideal S2x1x256x1024 .bf16)
  (x5 : Vec Ideal S1024x1024 .bf16) (x6 : Vec Ideal S1x1024 .f32) (x7 x8 : Vec Ideal S64x2816 .f32) (x9 : Vec Ideal S176x1024 .f32)

/-- Row `i` of half `b` of the block, after the attention. -/
def blockY (b : Fin 2) (i : Fin 512) (j : Fin 1024) : EReal :=
  ky (fun k => x0 (ix4 b 0 i k)) (fun k => x1 (ix2 0 k)) (fun k j => x2 (ix2 k j)) (fun m k => x3 (ix4 b 0 m k)) (fun m k => x4 (ix4 b 0 m k))
    (fun k j => x5 (ix2 k j)) (fun k => x6 (ix2 0 k)) j

/-- The attention's output of the first half. -/
theorem att0 (i : Fin 512) (n : Fin 4) (d : Fin 256) : k0_pay59 x0 x1 x2 x3 x4 x5 x6 x7 x8 x9 (ix2 i (col n d))
    = ko (fun k => x0 (ix4 0 0 i k)) (fun k => x1 (ix2 0 k)) (fun k j => x2 (ix2 k j)) (fun m k => x3 (ix4 0 0 m k)) (fun m k => x4 (ix4 0 0 m k)) n d := by
  unfold k0_pay59
  rw [pay23_apply]
  refine Finset.sum_congr rfl fun m _ => ?_
  fin_cases n
  · refine congrArg₂ (· * ·) ?_ ?_
    · unfold k0_pay54
      refine (pay18_apply _ _ _ _ (pay15_apply _ _ _ _ _)).trans ?_
      refine congrArg (fun s => sm s m) (funext fun m => ?_)
      rw [pay9_apply]
      pointwise [k0_pay49, k0_pay51, k0_pay52, pay7_apply, pay8_apply, col, ks, kq]
    · pointwise [col]
  · refine congrArg₂ (· * ·) ?_ ?_
    · unfold k0_pay55
      refine (pay19_apply _ _ _ _ (pay16_apply _ _ _ _)).trans ?_
      refine congrArg (fun s => sm s m) (funext fun m => ?_)
      rw [pay10_apply]
      pointwise [k0_pay50, pay4_apply, col, ks, kq]
    · pointwise [col]
  · refine congrArg₂ (· * ·) ?_ ?_
    · unfold k0_pay56
      refine (pay20_apply _ _ _).trans ?_
      refine congrArg (fun s => sm s m) (funext fun m => ?_)
      rw [pay11_apply]
      pointwise [pay5_apply, col, ks, kq]
    · pointwise [col]
  · refine congrArg₂ (· * ·) ?_ ?_
    · unfold k0_pay57
      refine (pay21_apply _ _ _).trans ?_
      refine congrArg (fun s => sm s m) (funext fun m => ?_)
      rw [pay12_apply]
      pointwise [pay6_apply, col, ks, kq]
    · pointwise [col]

theorem half0 (i : Fin 512) (j : Fin 1024) :
    k0_pay43 (k0_pay2 (View.ld x0 r0_0)) (k0_pay40 (k0_pay59 x0 x1 x2 x3 x4 x5 x6 x7 x8 x9) (k0_pay61 x0 x1 x2 x3 x4 x5 x6 x7 x8 x9) (k0_pay63 x0 x1 x2 x3 x4 x5 x6 x7 x8 x9) (k0_pay64 x0 x1 x2 x3 x4 x5 x6 x7 x8 x9) (View.ld x5 r0_5)) (k0_pay41 (View.ld x6 r0_1)) (k0_pay42 (k0_pay59 x0 x1 x2 x3 x4 x5 x6 x7 x8 x9) (k0_pay61 x0 x1 x2 x3 x4 x5 x6 x7 x8 x9) (k0_pay63 x0 x1 x2 x3 x4 x5 x6 x7 x8 x9) (k0_pay64 x0 x1 x2 x3 x4 x5 x6 x7 x8 x9) (View.ld x5 r0_5)) (ix4 0 0 i j)
      = blockY x0 x1 x2 x3 x4 x5 x6 0 i j := by
  refine (tail_apply _ (k0_pay59 x0 x1 x2 x3 x4 x5 x6 x7 x8 x9) (View.ld x5 r0_2) (View.ld x5 r0_3) (View.ld x5 r0_4) (View.ld x5 r0_5) _ (fun k j => x5 (ix2 k j)) ?_ i j).trans ?_
  · intro k n d
    fin_cases n <;> pointwise [col]
  · unfold blockY ky kc
    have : ∀ k, k0_pay59 x0 x1 x2 x3 x4 x5 x6 x7 x8 x9 (ix2 i k) = _ := fun k => (congrArg (fun k => k0_pay59 x0 x1 x2 x3 x4 x5 x6 x7 x8 x9 (ix2 i k)) (col_div_mod k).symm).trans (att0 ..)
    simp only [this]
    pointwise

/-- The attention's output of the second half. -/
abbrev att1v : FVec Ideal S512x1024 .bf16 := (k0_pay44 (k0_pay36 (k0_pay35 (k0_pay17 (k0_pay53 x0 x1 x2 x3 x4 x5 x6 x7 x8 x9) (View.ld x2 r0_2)) (View.ld x3 r0_11))) (k0_pay37 (k0_pay28 (k0_pay58 x0 x1 x2 x3 x4 x5 x6 x7 x8 x9) (View.ld x3 r0_12)) (k0_pay32 (k0_pay58 x0 x1 x2 x3 x4 x5 x6 x7 x8 x9) (View.ld x3 r0_12))) (k0_pay38 (k0_pay29 (k0_pay60 x0 x1 x2 x3 x4 x5 x6 x7 x8 x9) (View.ld x3 r0_13)) (k0_pay33 (k0_pay60 x0 x1 x2 x3 x4 x5 x6 x7 x8 x9) (View.ld x3 r0_13))) (k0_pay39 (k0_pay30 (k0_pay62 x0 x1 x2 x3 x4 x5 x6 x7 x8 x9) (View.ld x3 r0_14)) (k0_pay34 (k0_pay62 x0 x1 x2 x3 x4 x5 x6 x7 x8 x9) (View.ld x3 r0_14))) (View.ld x4 r0_11) (View.ld x4 r0_12) (View.ld x4 r0_13) (View.ld x4 r0_14))

theorem att1 (i : Fin 512) (n : Fin 4) (d : Fin 256) : att1v x0 x1 x2 x3 x4 x5 x6 x7 x8 x9 (ix2 i (col n d))
    = ko (fun k => x0 (ix4 1 0 i k)) (fun k => x1 (ix2 0 k)) (fun k j => x2 (ix2 k j)) (fun m k => x3 (ix4 1 0 m k)) (fun m k => x4 (ix4 1 0 m k)) n d := by
  refine (pay44_apply _ _ _ _ _ _ _ _ i n d).trans ?_
  unfold ko
  refine Finset.sum_congr rfl fun m _ => ?_
  fin_cases n
  · refine congrArg₂ (· * ·) ?_ ?_
    · refine (pay35_apply _ _ _ _).trans ?_
      refine congrArg (fun s => sm s m) (funext fun m => ?_)
      pointwise [pay17_apply, k0_pay53, normed, col, ks, kq]
    · pointwise [col]
  · refine congrArg₂ (· * ·) ?_ ?_
    · refine (pay37_apply _ _ _ _ (pay32_apply _ _ _ _)).trans ?_
      refine congrArg (fun s => sm s m) (funext fun m => ?_)
      rw [pay28_apply]
      pointwise [k0_pay58, pay22_apply, k0_pay53, normed, col, ks, kq]
    · pointwise [col]
  · refine congrArg₂ (· * ·) ?_ ?_
    · refine (pay38_apply _ _ _ _ (pay33_apply _ _ _ _)).trans ?_
      refine congrArg (fun s => sm s m) (funext fun m => ?_)
      rw [pay29_apply]
      pointwise [k0_pay60, pay24_apply, k0_pay53, normed, col, ks, kq]
    · pointwise [col]
  · refine congrArg₂ (· * ·) ?_ ?_
    · refine (pay39_apply _ _ _ _ (pay34_apply _ _ _ _)).trans ?_
      refine congrArg (fun s => sm s m) (funext fun m => ?_)
      rw [pay30_apply]
      pointwise [k0_pay62, pay26_apply, k0_pay53, normed, col, ks, kq]
    · pointwise [col]

theorem half1 (i : Fin 512) (j : Fin 1024) :
    k0_pay46 (k0_pay13 (View.ld x0 r0_10)) (att1v x0 x1 x2 x3 x4 x5 x6 x7 x8 x9) (k0_pay45 (View.ld x5 r0_2)) (constant S512x256 .f32 0x00000000#32) (View.ld x5 r0_3) (View.ld x5 r0_4) (View.ld x5 r0_5) (View.ld x6 r0_1) (ix4 0 0 i j)
      = blockY x0 x1 x2 x3 x4 x5 x6 1 i j := by
  rw [pay46_eq]
  refine (tail_apply _ (att1v x0 x1 x2 x3 x4 x5 x6 x7 x8 x9) (View.ld x5 r0_2) (View.ld x5 r0_3) (View.ld x5 r0_4) (View.ld x5 r0_5) _ (fun k j => x5 (ix2 k j)) ?_ i j).trans ?_
  · intro k n d
    fin_cases n <;> pointwise [col]
  · unfold blockY ky kc
    have : ∀ k, att1v x0 x1 x2 x3 x4 x5 x6 x7 x8 x9 (ix2 i k) = _ := fun k => (congrArg (fun k => att1v x0 x1 x2 x3 x4 x5 x6 x7 x8 x9 (ix2 i k)) (col_div_mod k).symm).trans (att1 ..)
    simp only [this]
    pointwise

theorem ext4 {x : S1x1x512x1024.Idx} {u : Fin 1} {i : Fin 512} {j : Fin 1024} (h1 : u.val = (x 1).val) (h2 : i.val = (x 2).val) (h3 : j.val = (x 3).val) :
    ix4 0 0 i j = x := by
  funext a
  match a with
  | ⟨0, _⟩ => exact (Subsingleton.elim (α := Fin 1) _ _)
  | ⟨1, _⟩ => exact (Subsingleton.elim (α := Fin 1) _ _)
  | ⟨2, _⟩ => exact Fin.ext h2
  | ⟨3, _⟩ => exact Fin.ext h3

/-- The output block: both halves hold the attended rows. -/
theorem out10_apply (b : Fin 2) (i : Fin 512) (j : Fin 1024) :
    out0_10 x0 x1 x2 x3 x4 x5 x6 x7 x8 x9 (ix4 b 0 i j) = blockY x0 x1 x2 x3 x4 x5 x6 b i j := by
  unfold out0_10
  canon_tiles
  · obtain rfl : x = ix4 0 0 i j := (ext4 h1 h2 h3).symm
    obtain rfl : b = 1 := by ext; simpa using h0
    exact half1 ..
  · obtain rfl : x = ix4 0 0 i j := (ext4 h1 h2 h3).symm
    obtain rfl : b = 0 := by ext; simpa using h0
    exact half0 ..

end Block

end Cert.Xattn
-- ==== Proof.XattnArrays.lean ====
module

public import proofs.«01_k».proof.Proof.XattnBlock

@[expose] public section

set_option maxRecDepth 16384

noncomputable section

namespace Cert.Xattn

open Idealize.ShloMosaic Idealize.ShloMosaic.TcCoe Idealize.SL.Sem
open Cert.Kernel2Ideal Cert.Kernel2Ideal.Gen Cert.Layer

variable (m : (ℓ : Loc nD τ sig) → Buf (Elt Ideal) ℓ) (c : Dev nD)

/-! ## The blocks of a grid point -/

theorem idx : ∀ t, win0_0.index t = ![0, (grid0.coords t 0).val, (grid0.coords t 1).val, 0] ∧ win0_1.index t = ![0, 0] ∧ win0_2.index t = ![0, 0]
    ∧ win0_3.index t = ![0, (grid0.coords t 0).val, 0, 0] ∧ win0_4.index t = ![0, (grid0.coords t 0).val, 0, 0]
    ∧ win0_5.index t = ![0, 0] ∧ win0_6.index t = ![0, 0]
    ∧ win0_7.index t = ![(grid0.coords t 0).val * 4 + (grid0.coords t 1).val, 0] ∧ win0_8.index t = ![(grid0.coords t 0).val * 4 + (grid0.coords t 1).val, 0]
    ∧ win0_9.index t = ![(grid0.coords t 0).val * 4 + (grid0.coords t 1).val, 0]
    ∧ win0_10.index t = ![0, (grid0.coords t 0).val, (grid0.coords t 1).val, 0]
    ∧ win0_11.index t = ![(grid0.coords t 0).val * 4 + (grid0.coords t 1).val, 0] ∧ win0_12.index t = ![(grid0.coords t 0).val * 4 + (grid0.coords t 1).val, 0]
    ∧ win0_13.index t = ![(grid0.coords t 0).val * 4 + (grid0.coords t 1).val, 0] := by decide +kernel

/-- The batch of half `b` of group `a`. -/
def batch (b : Fin 2) (a : Fin 4) : Fin 8 := ⟨b.val * 4 + a.val, by omega⟩

theorem blk0 (t : Fin cfg0.N) (b : Fin 2) (i : Fin 512) (k : Fin 1024) (a : Fin 4) (r : Fin 2048)
    (ha : a.val = (grid0.coords t 0).val) (hr : r.val = (grid0.coords t 1).val * 512 + i.val) :
    iblk m c 0 t (ix4 b 0 i k) = m ((c : Thread nD τ).loc main_arg0) (ix3 (batch b a) r k) := by
  blk_simp [iblk, idx t]; entry_read; pointwise [batch]; blk_ext [iblk, idx t, ha, hr]

theorem blk1 (t : Fin cfg0.N) (k : Fin 1024) :
    iblk m c 1 t (ix2 0 k) = m ((c : Thread nD τ).loc main_arg1) (ix1 k) := by
  blk_ext! [iblk, V, idx t]

theorem blk6 (t : Fin cfg0.N) (k : Fin 1024) :
    iblk m c 6 t (ix2 0 k) = m ((c : Thread nD τ).loc main_arg6) (ix1 k) := by
  blk_ext! [iblk, V, idx t]

/-- The query's weight times the score's scale. -/
def scaled (w : Vec Ideal S1024x1024 .f32) (k j : Fin 1024) : EReal := w (ix2 k j) * Ideal.ofBits FTy.f32 1031798784#32

theorem blk2 (t : Fin cfg0.N) (i k : Fin 1024) :
    iblk m c 2 t (ix2 i k) = scaled (m ((c : Thread nD τ).loc main_arg2)) i k := by
  unfold scaled
  blk_simp [iblk, idx t]; entry_read; pointwise
  refine congrArg (fun v : EReal => v * Ideal.ofBits FTy.f32 1031798784#32) ?_
  blk_ext [iblk, idx t]

theorem blk5 (t : Fin cfg0.N) (k j : Fin 1024) :
    iblk m c 5 t (ix2 k j) = m ((c : Thread nD τ).loc main_arg5) (ix2 k j) := by
  blk_ext [iblk, V, idx t]

theorem blk3 (t : Fin cfg0.N) (b : Fin 2) (i : Fin 256) (n : Fin 4) (d : Fin 256) (a : Fin 4)
    (ha : a.val = (grid0.coords t 0).val) :
    iblk m c 3 t (ix4 b 0 i (col n d)) = m ((c : Thread nD τ).loc main_arg3) (ix4 (batch b a) i n d) := by
  blk_simp [iblk, idx t]; entry_read; pointwise [batch, col]; blk_ext [iblk, idx t, ha]

theorem blk4 (t : Fin cfg0.N) (b : Fin 2) (i : Fin 256) (n : Fin 4) (d : Fin 256) (a : Fin 4)
    (ha : a.val = (grid0.coords t 0).val) :
    iblk m c 4 t (ix4 b 0 i (col n d)) = m ((c : Thread nD τ).loc main_arg4) (ix4 (batch b a) i n d) := by
  blk_simp [iblk, idx t]; entry_read; pointwise [batch, col]; blk_ext [iblk, idx t, ha]

theorem rows7 (t : Fin cfg0.N) (i : Fin 64) (j : Fin 2816) (r : Fin 1024) (q : Fin 2816)
    (hr : r.val = ((grid0.coords t 0).val * 4 + (grid0.coords t 1).val) * 64 + i.val) (hq : q.val = j.val) :
    iblk m c 7 t (ix2 i j) = m ((c : Thread nD τ).loc main_arg7) (ix2 r q) := by
  obtain rfl := Fin.ext hq
  blk_ext [iblk, V, idx t, hr]

theorem rows8 (t : Fin cfg0.N) (i : Fin 64) (j : Fin 2816) (r : Fin 1024) (q : Fin 2816)
    (hr : r.val = ((grid0.coords t 0).val * 4 + (grid0.coords t 1).val) * 64 + i.val) (hq : q.val = j.val) :
    iblk m c 8 t (ix2 i j) = m ((c : Thread nD τ).loc main_arg8) (ix2 r q) := by
  obtain rfl := Fin.ext hq
  blk_ext [iblk, V, idx t, hr]

theorem rows9 (t : Fin cfg0.N) (i : Fin 176) (j : Fin 1024) (r : Fin 2816) (q : Fin 1024)
    (hr : r.val = ((grid0.coords t 0).val * 4 + (grid0.coords t 1).val) * 176 + i.val) (hq : q.val = j.val) :
    iblk m c 9 t (ix2 i j) = m ((c : Thread nD τ).loc main_arg9) (ix2 r q) := by
  obtain rfl := Fin.ext hq
  blk_ext [iblk, V, idx t, hr]

/-! ## What the output arrays hold -/

/-- The key's or value's row `p` of one batch, the heads side by side. -/
def heads (K : Vec Ideal S8x256x4x256 .f32) (a : Fin 8) (p : Fin 256) (k : Fin 1024) : EReal :=
  K (ix4 a p ⟨k.val / 256, by omega⟩ ⟨k.val % 256, by omega⟩)

/-- The kernel's attended rows, as a function of the arguments. -/
def kout (x : Vec Ideal S8x2048x1024 .f32) (g : Vec Ideal S1024 .f32) (w : Vec Ideal S1024x1024 .f32) (K V : Vec Ideal S8x256x4x256 .f32)
    (wo : Vec Ideal S1024x1024 .f32) (g' : Vec Ideal S1024 .f32) (a : Fin 8) (r : Fin 2048) (j : Fin 1024) : EReal :=
  ky (fun k => x (ix3 a r k)) (fun k => g (ix1 k)) (scaled w) (heads K a) (heads V a)
    (fun k j => wo (ix2 k j)) (fun k => g' (ix1 k)) j

theorem heads_col {K : Vec Ideal S2x1x256x1024 .bf16} {K' : Vec Ideal S8x256x4x256 .f32} {b : Fin 2} {a : Fin 8}
    (h : ∀ p n d, K (ix4 b 0 p (col n d)) = K' (ix4 a p n d)) : (fun p k => K (ix4 b 0 p k)) = heads K' a := by
  funext p k
  rw [← col_div_mod k, h, col_div_mod]
  rfl

theorem arr10 : (dats m 0 c).arrAt 10 (cfgs 0).N = fun i : S2x4x2048x1024.Idx =>
    kout (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (batch (i 0) (i 1)) (i 2) (i 3) := by
  refine (dats m 0 c).arrAt_eq_of_covers 10 _ (by decide +kernel) fun t hf y => ?_
  blk_simp
  rw [after0_10]
  obtain ⟨b, u, i, j, rfl⟩ : ∃ (b : Fin 2) (u : Fin 1) (i : Fin 512) (j : Fin 1024), y = ix4 b u i j := ⟨y 0, y 1, y 2, y 3, eq_ix4 y⟩
  obtain rfl : u = 0 := Subsingleton.elim _ _
  refine (out10_apply (iblk m c 0 t) (iblk m c 1 t) (iblk m c 2 t) (iblk m c 3 t) (iblk m c 4 t) (iblk m c 5 t) (iblk m c 6 t) (iblk m c 7 t) (iblk m c 8 t) (iblk m c 9 t) b i j).trans ?_
  have key : ∀ (b' : Fin 2) (a : Fin 4) (r : Fin 2048) (j' : Fin 1024), b'.val = b.val → a.val = (grid0.coords t 0).val → r.val = (grid0.coords t 1).val * 512 + i.val → j'.val = j.val →
      blockY (iblk m c 0 t) (iblk m c 1 t) (iblk m c 2 t) (iblk m c 3 t) (iblk m c 4 t) (iblk m c 5 t) (iblk m c 6 t) b i j
        = kout (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (batch b' a) r j' := by
    intro b' a r j' hb ha hr hj
    obtain rfl := Fin.ext hb
    obtain rfl := Fin.ext hj
    unfold blockY kout
    rw [heads_col fun p n d => blk3 m c t _ p n d a ha, heads_col fun p n d => blk4 m c t _ p n d a ha]
    rw [funext fun k => blk0 m c t _ i k a r ha hr, funext fun k => blk1 m c t k, funext fun k => blk6 m c t k,
      funext fun k => funext fun j => blk2 m c t k j, funext fun k => funext fun j => blk5 m c t k j]
  refine key _ _ _ _ ?_ ?_ ?_ ?_ <;> blk_simp [idx t]
  rfl

/-- The three weights are handed on as they are. -/
theorem arr11 : (dats m 0 c).arrAt 11 (cfgs 0).N = fun i : S1024x2816.Idx => (m ((c : Thread nD τ).loc main_arg7)) i := by
  refine (dats m 0 c).arrAt_eq_of_covers 11 _ (by decide +kernel) fun t hf y => ?_
  blk_simp
  rw [after0_11]
  frame_out
  pointwise [k0_pay47]
  obtain ⟨i, j, rfl⟩ : ∃ (i : Fin 64) (j : Fin 2816), y = ix2 i j := ⟨y 0, y 1, eq_ix2 y⟩
  refine (rows7 m c t i j _ _ ?_ ?_).trans (congrArg _ (eq_ix2 _).symm) <;> blk_simp [idx t]

theorem arr12 : (dats m 0 c).arrAt 12 (cfgs 0).N = fun i : S1024x2816.Idx => (m ((c : Thread nD τ).loc main_arg8)) i := by
  refine (dats m 0 c).arrAt_eq_of_covers 12 _ (by decide +kernel) fun t hf y => ?_
  blk_simp
  rw [after0_12]
  frame_out
  pointwise [k0_pay48]
  obtain ⟨i, j, rfl⟩ : ∃ (i : Fin 64) (j : Fin 2816), y = ix2 i j := ⟨y 0, y 1, eq_ix2 y⟩
  refine (rows8 m c t i j _ _ ?_ ?_).trans (congrArg _ (eq_ix2 _).symm) <;> blk_simp [idx t]

theorem arr13 : (dats m 0 c).arrAt 13 (cfgs 0).N = fun i : S2816x1024.Idx => (m ((c : Thread nD τ).loc main_arg9)) i := by
  refine (dats m 0 c).arrAt_eq_of_covers 13 _ (by decide +kernel) fun t hf y => ?_
  blk_simp
  rw [after0_13]
  frame_out
  pointwise [k0_pay1]
  obtain ⟨i, j, rfl⟩ : ∃ (i : Fin 176) (j : Fin 1024), y = ix2 i j := ⟨y 0, y 1, eq_ix2 y⟩
  refine (rows9 m c t i j _ _ ?_ ?_).trans (congrArg _ (eq_ix2 _).symm) <;> blk_simp [idx t]

end Cert.Xattn
-- ==== Proof.XattnRef.lean ====
module

public import proofs.«01_k».proof.Defs
public import proofs.«01_k».proof.Proof.Common
public import proofs.«01_k».proof.Proof.Gen.Reference2Ideal.Run
public import Idealize.ShloMosaic.Lib.Claim
public import Idealize.ShloMosaic.Lib.Pointwise
public import Idealize.ShloMosaic.Lib.Tactic.CleanTypes

@[expose] public section

set_option maxRecDepth 16384

noncomputable section

namespace Cert.XattnRef

open Idealize.ShloMosaic Idealize.ShloMosaic.TcCoe Idealize.SL.Sem
open Cert.Reference2Ideal Cert.Reference2Ideal.Gen Cert.Layer Cert.Reference2Ideal.Facts

/-! ## The reference's vectors, one step after another, each read at an entry -/

variable (x : FVec Ideal S8x2048x1024 .f32) (g : FVec Ideal S1024 .f32) (w : FVec Ideal S1024x1024 .f32) (K V : FVec Ideal S8x256x4x256 .f32)

def normed : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

theorem normed_apply (a : Fin 8) (r : Fin 2048) (k : Fin 1024) :
    normed x g (ix3 a r k) = nrm (fun k => x (ix3 a r k)) (fun k => g (ix1 k)) k := by
  unfold normed; pointwise; rfl

/-- The queries, by head. -/
def query : FVec Ideal S8x2048x4x256 .f32 :=
  shapeCast _ (Host.dotGeneral (F := Ideal) dot_S8x2048x1024_S1024x1024_S8x2048x1024_2_0_01_1_n_n none (normed x g) w) shapeCasts_S8x2048x1024_S8x2048x4x256

theorem query_apply (a : Fin 8) (r : Fin 2048) (n : Fin 4) (d : Fin 256) :
    query x g w (ix4 a r n d) = ∑ k, nrm (fun k => x (ix3 a r k)) (fun k => g (ix1 k)) k * w (ix2 k ⟨n.val * 256 + d.val, by omega⟩) := by
  unfold query; pointwise [normed_apply]

/-- The products of queries and keys. -/
def qk (q : FVec Ideal S8x2048x4x256 .f32) (K : FVec Ideal S8x256x4x256 .f32) : FVec Ideal S8x4x2048x256 .f32 :=
  Host.dotGeneral (F := Ideal) dot_S8x2048x4x256_S8x256x4x256_S8x4x2048x256_3_3_1_1_02_02 none q K

theorem qk_apply (q : FVec Ideal S8x2048x4x256 .f32) (K : FVec Ideal S8x256x4x256 .f32) (a : Fin 8) (n : Fin 4) (r : Fin 2048) (m : Fin 256) :
    qk q K (ix4 a n r m) = ∑ d, q (ix4 a r n d) * K (ix4 a m n d) := by
  unfold qk; pointwise

/-- The scaled scores. -/
def score : FVec Ideal S8x4x2048x256 .f32 :=
  mulf (qk (query x g w) K) (broadcastInDim S8x4x2048x256 ![] bcast_S_S8x4x2048x256 (constant S_ .f32 0x3D800000#32))

theorem score_apply (a : Fin 8) (n : Fin 4) (r : Fin 2048) (m : Fin 256) :
    score x g w K (ix4 a n r m) = (∑ d, query x g w (ix4 a r n d) * K (ix4 a m n d)) * Ideal.ofBits FTy.f32 1031798784#32 := by
  unfold score; pointwise [qk_apply]

variable (s : FVec Ideal S8x4x2048x256 .f32)

/-- The largest score of each row. -/
def rowTop : FVec Ideal S8x4x2048 .f32 :=
  Host.reduce FloatOps.maximumf s (constant S_ .f32 0xFF800000#32) reducesTo_S8x4x2048x256_S8x4x2048_d3 h_S_

theorem rowTop_apply (a : Fin 8) (n : Fin 4) (r : Fin 2048) :
    rowTop s (ix3 a n r) = Finset.fold max (Ideal.ofBits FTy.f32 4286578688#32) (fun m => s (ix4 a n r m)) Finset.univ := by
  unfold rowTop; pointwise

/-- The exponentials of the scores, each less its row's largest. -/
def expd (t : FVec Ideal S8x4x2048 .f32) : FVec Ideal S8x4x2048x256 .f32 :=
  Host.exp (subf s (broadcastInDim S8x4x2048x256 ![0, 1, 2, 3] bcast_S8x4x2048x1_S8x4x2048x256_0_1_2_3 (broadcastInDim S8x4x2048x1 ![0, 1, 2] bcast_S8x4x2048_S8x4x2048x1_0_1_2 (maximumf (broadcastInDim S8x4x2048 ![] bcast_S_S8x4x2048 (constant S_ .f32 0xFF800000#32)) t))))

theorem expd_apply (t : FVec Ideal S8x4x2048 .f32) (a : Fin 8) (n : Fin 4) (r : Fin 2048) (m : Fin 256) :
    expd s t (ix4 a n r m) = Ideal.exp (s (ix4 a n r m) - t (ix3 a n r)) := by
  unfold expd; pointwise
  rw [neg_inf_word, max_eq_right bot_le]

/-- The attention's output, from the exponentials. -/
def attended (e : FVec Ideal S8x4x2048x256 .f32) : FVec Ideal S8x2048x1024 .f32 :=
  shapeCast _ (transpose S8x2048x4x256 [0, 3, 1, 2] (Host.dotGeneral (F := Ideal) dot_S8x256x4x256_S8x4x2048x256_S8x4x256x2048_1_3_3_2_02_01 none V (Host.divf e (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd e (constant S_ .f32 0x00000000#32) reducesTo_S8x4x2048x256_S8x4x2048_d3 h_S_))))) (transposes_S8x4x256x2048_S8x2048x4x256_0_3_1_2)) shapeCasts_S8x2048x4x256_S8x2048x1024

theorem attended_apply (e : FVec Ideal S8x4x2048x256 .f32) (a : Fin 8) (r : Fin 2048) (k : Fin 1024) :
    attended V e (ix3 a r k) = ∑ m, V (ix4 a m ⟨k.val / 256, by omega⟩ ⟨k.val % 256, by omega⟩)
      * Ideal.div (e (ix4 a ⟨k.val / 256, by omega⟩ r m)) (∑ m, e (ix4 a ⟨k.val / 256, by omega⟩ r m)) := by
  unfold attended; pointwise

/-- The output projection. -/
def projected (o : FVec Ideal S8x2048x1024 .f32) : FVec Ideal S8x2048x1024 .f32 :=
  Host.dotGeneral (F := Ideal) dot_S8x2048x1024_S1024x1024_S8x2048x1024_2_0_01_1_n_n none o w

theorem projected_apply (o : FVec Ideal S8x2048x1024 .f32) (a : Fin 8) (r : Fin 2048) (j : Fin 1024) :
    projected w o (ix3 a r j) = ∑ k, o (ix3 a r k) * w (ix2 k j) := by
  unfold projected; pointwise

/-- The residual and the normed projection, the batches in two halves. -/
def added (c : FVec Ideal S8x2048x1024 .f32) : FVec Ideal S2x4x2048x1024 .f32 :=
  shapeCast _ (addf x (normed c g)) shapeCasts_S8x2048x1024_S2x4x2048x1024

theorem added_apply (c : FVec Ideal S8x2048x1024 .f32) (b : Fin 2) (a : Fin 4) (r : Fin 2048) (j : Fin 1024) :
    added x g c (ix4 b a r j) = x (ix3 ⟨b.val * 4 + a.val, by omega⟩ r j) + normed c g (ix3 ⟨b.val * 4 + a.val, by omega⟩ r j) := by
  unfold added; pointwise

/-- The reference's first result, as a function of the arguments. -/
def result (x : FVec Ideal S8x2048x1024 .f32) (g : FVec Ideal S1024 .f32) (w : FVec Ideal S1024x1024 .f32) (K V : FVec Ideal S8x256x4x256 .f32)
    (wo : FVec Ideal S1024x1024 .f32) (g' : FVec Ideal S1024 .f32) : FVec Ideal S2x4x2048x1024 .f32 :=
  added x g' (projected wo (attended V (expd (score x g w K) (rowTop (score x g w K)))))

end Cert.XattnRef
-- ==== Proof.XattnValue.lean ====
module

public import proofs.«01_k».proof.Proof.XattnArrays
public import proofs.«01_k».proof.Proof.XattnRef
public import proofs.«01_k».proof.Proof.Gen.Pre_finite_attention

@[expose] public section

set_option maxRecDepth 16384

noncomputable section

namespace Cert.Xattn

open Idealize.ShloMosaic Idealize.ShloMosaic.TcCoe Idealize.SL.Sem
open Cert.Kernel2Ideal Cert.Kernel2Ideal.Gen Cert.Layer

/-! ## The reference's function of one row -/

/-- The softmax over the memory's positions, each exponential divided by the sum. -/
def rsm (s : Fin 256 → EReal) (m : Fin 256) : EReal :=
  Ideal.div (Ideal.exp (s m - top s)) (∑ m, Ideal.exp (s m - top s))

section Row
variable (x g : Fin 1024 → EReal) (w : Fin 1024 → Fin 1024 → EReal) (K V : Fin 256 → Fin 1024 → EReal)
  (wo : Fin 1024 → Fin 1024 → EReal) (g' : Fin 1024 → EReal)

/-- The score of head `n` at the memory's position `m`, scaled after the product. -/
def rs (n : Fin 4) (m : Fin 256) : EReal := (∑ d, kq x g w (col n d) * K m (col n d)) * Ideal.ofBits FTy.f32 1031798784#32
def ro (n : Fin 4) (d : Fin 256) : EReal := ∑ m, V m (col n d) * rsm (rs x g w K n) m
def rc (j : Fin 1024) : EReal := ∑ k : Fin 1024, ro x g w K V ⟨k.val / 256, by omega⟩ ⟨k.val % 256, by omega⟩ * wo k j
def ry (j : Fin 1024) : EReal := x j + nrm (rc x g w K V wo) g' j
end Row

theorem scale_word : Ideal.ofBits FTy.f32 1031798784#32 = (((1 : ℝ) / 16 : ℝ) : EReal) := by
  simp [Ideal.ofBits, Ideal.ieee, -EReal.coe_mul]; norm_num

theorem top_real {s : Fin 256 → EReal} (h : ∀ m, IsR (s m)) : IsR (top s) := by
  unfold top; rw [neg_inf_word]; exact IsR.fold_max h

theorem sm_eq {s : Fin 256 → EReal} (h : ∀ m, IsR (s m)) (m : Fin 256) : sm s m = rsm s m := by
  unfold sm rsm
  exact Ideal.mul_one_div (sum_exp_ne fun m => (h m).sub (top_real h))

section Row
variable {x g : Fin 1024 → EReal} {w : Fin 1024 → Fin 1024 → EReal} {K V : Fin 256 → Fin 1024 → EReal}
  {wo : Fin 1024 → Fin 1024 → EReal} {g' : Fin 1024 → EReal}
  (hx : ∀ k, IsR (x k)) (hg : ∀ k, IsR (g k)) (hw : ∀ k j, IsR (w k j)) (hK : ∀ m k, IsR (K m k))

include hx hg hw in
theorem kq_real (j : Fin 1024) : IsR (kq x g w j) := IsR.sum _ fun k => (IsR.nrm hx hg k).mul (hw k j)

include hx hg hw in
theorem kq_scaled (j : Fin 1024) : kq x g (fun k j => w k j * Ideal.ofBits FTy.f32 1031798784#32) j
    = kq x g w j * Ideal.ofBits FTy.f32 1031798784#32 := by
  unfold kq
  rw [sum_mul _ (fun k => (IsR.nrm hx hg k).mul (hw k j)) (scale_word ▸ IsR.coe _)]
  exact Finset.sum_congr rfl fun k _ => (mul_assoc _ _ _).symm

include hx hg hw hK in
theorem rs_real (n : Fin 4) (m : Fin 256) : IsR (rs x g w K n m) :=
  (IsR.sum _ fun d => (kq_real hx hg hw _).mul (hK _ _)).mul (scale_word ▸ IsR.coe _)

include hx hg hw hK in
theorem ks_eq (n : Fin 4) (m : Fin 256) : ks x g (fun k j => w k j * Ideal.ofBits FTy.f32 1031798784#32) K n m = rs x g w K n m := by
  unfold ks rs
  rw [sum_mul _ (fun d => (kq_real hx hg hw _).mul (hK _ _)) (scale_word ▸ IsR.coe _)]
  refine Finset.sum_congr rfl fun d _ => ?_
  rw [kq_scaled hx hg hw, mul_assoc, mul_comm (Ideal.ofBits _ _), ← mul_assoc]

include hx hg hw hK in
/-- With the scale in the weight and one reciprocal per row, the kernel's row is the reference's. -/
theorem ky_eq (j : Fin 1024) : ky x g (fun k j => w k j * Ideal.ofBits FTy.f32 1031798784#32) K V wo g' j = ry x g w K V wo g' j := by
  unfold ky ry kc rc ko ro
  have : ∀ n, ks x g (fun k j => w k j * Ideal.ofBits FTy.f32 1031798784#32) K n = rs x g w K n := fun n => funext fun m => ks_eq hx hg hw hK n m
  simp only [this, sm_eq (fun m => rs_real hx hg hw hK _ m), mul_comm]
end Row

/-! ## The precondition, read at an entry -/

theorem finite_args {a0 : Vec Ideal S8x2048x1024 .f32} {a1 : Vec Ideal S1024 .f32} {a2 : Vec Ideal S1024x1024 .f32} {a3 a4 : Vec Ideal S8x256x4x256 .f32}
    {a5 : Vec Ideal S1024x1024 .f32} {a6 : Vec Ideal S1024 .f32} {a7 a8 : Vec Ideal S1024x2816 .f32} {a9 : Vec Ideal S2816x1024 .f32}
    (h : ∀ j, Cert.Pre_finite_attention.fn (F := Ideal) a0 a1 a2 a3 a4 a5 a6 a7 a8 a9 j = 1#1) :
    (∀ i, IsR (a0 i)) ∧ (∀ i, IsR (a1 i)) ∧ (∀ i, IsR (a2 i)) ∧ (∀ i, IsR (a3 i)) := by
  have h := h (fun a => a.elim0)
  dsimp only [Cert.Pre_finite_attention.fn, Cert.Pre_finite_attention.fn_part1] at h
  obtain ⟨h, h3⟩ := IntOp.andi_eq_one.1 h
  obtain ⟨h, h2⟩ := IntOp.andi_eq_one.1 h
  obtain ⟨h0, h1⟩ := IntOp.andi_eq_one.1 h
  exact ⟨isR_of_all _ _ (fun _ => rfl) _ _ _ _ h0, isR_of_all _ _ (fun _ => rfl) _ _ _ _ h1, isR_of_all _ _ (fun _ => rfl) _ _ _ _ h2,
    isR_of_all _ _ (fun _ => rfl) _ _ _ _ h3⟩

/-! ## The reference's result at an entry -/

theorem heads_at (K : Vec Ideal S8x256x4x256 .f32) (a : Fin 8) (m : Fin 256) (n : Fin 4) (d : Fin 256) :
    heads K a m (col n d) = K (ix4 a m n d) := by
  unfold heads col
  congr 2
  · exact Fin.ext (by show (n.val * 256 + d.val) / 256 = n.val; omega)
  · exact Fin.ext (by show (n.val * 256 + d.val) % 256 = d.val; omega)

/-- The reference's result is `ry` of its row. -/
theorem result_apply (x : FVec Ideal S8x2048x1024 .f32) (g : FVec Ideal S1024 .f32) (w : FVec Ideal S1024x1024 .f32) (K V : FVec Ideal S8x256x4x256 .f32)
    (wo : FVec Ideal S1024x1024 .f32) (g' : FVec Ideal S1024 .f32) (b : Fin 2) (a : Fin 4) (r : Fin 2048) (j : Fin 1024) :
    Cert.XattnRef.result x g w K V wo g' (ix4 b a r j) =
      ry (fun k => x (ix3 (batch b a) r k)) (fun k => g (ix1 k)) (fun k j => w (ix2 k j)) (heads K (batch b a)) (heads V (batch b a))
        (fun k j => wo (ix2 k j)) (fun k => g' (ix1 k)) j := by
  unfold Cert.XattnRef.result
  rw [Cert.XattnRef.added_apply, Cert.XattnRef.normed_apply]
  unfold ry
  refine congrArg₂ (· + ·) rfl (congrArg (fun c => nrm c (fun k => g' (ix1 k)) j) (funext fun k => ?_))
  rw [Cert.XattnRef.projected_apply]
  unfold rc
  refine Finset.sum_congr rfl fun k' _ => congrArg (· * wo (ix2 k' k)) ?_
  rw [Cert.XattnRef.attended_apply]
  unfold ro
  have hs : ∀ n m, Cert.XattnRef.score x g w K (ix4 (batch b a) n r m) = rs (fun k => x (ix3 (batch b a) r k)) (fun k => g (ix1 k)) (fun k j => w (ix2 k j)) (heads K (batch b a)) n m := by
    intro n m
    rw [Cert.XattnRef.score_apply]
    unfold rs
    refine congrArg (· * Ideal.ofBits FTy.f32 1031798784#32) (Finset.sum_congr rfl fun d _ => ?_)
    rw [Cert.XattnRef.query_apply]
    exact congrArg₂ (· * ·) rfl (heads_at K (batch b a) m n d).symm
  refine Finset.sum_congr rfl fun m _ => congrArg₂ (· * ·) (heads_at V (batch b a) m _ _).symm ?_
  change Ideal.div (Cert.XattnRef.expd _ _ (ix4 (batch b a) _ r m)) (∑ m, Cert.XattnRef.expd _ _ (ix4 (batch b a) _ r m)) = _
  simp only [Cert.XattnRef.expd_apply, Cert.XattnRef.rowTop_apply, hs]
  rfl

/-- The kernel's rows are the reference's, where the arguments of the scores are finite. -/
theorem kout_eq {x : FVec Ideal S8x2048x1024 .f32} {g : FVec Ideal S1024 .f32} {w : FVec Ideal S1024x1024 .f32} {K : FVec Ideal S8x256x4x256 .f32}
    (V : FVec Ideal S8x256x4x256 .f32) (wo : FVec Ideal S1024x1024 .f32) (g' : FVec Ideal S1024 .f32)
    (hx : ∀ i, IsR (x i)) (hg : ∀ i, IsR (g i)) (hw : ∀ i, IsR (w i)) (hK : ∀ i, IsR (K i)) :
    (fun i : S2x4x2048x1024.Idx => kout x g w K V wo g' (batch (i 0) (i 1)) (i 2) (i 3)) = Cert.XattnRef.result x g w K V wo g' := by
  funext i
  obtain ⟨b, a, r, j, rfl⟩ : ∃ (b : Fin 2) (a : Fin 4) (r : Fin 2048) (j : Fin 1024), i = ix4 b a r j := ⟨i 0, i 1, i 2, i 3, eq_ix4 i⟩
  rw [result_apply]
  exact ky_eq (fun k => hx _) (fun k => hg _) (fun k j => hw _) (fun m k => hK _) j

set_option maxHeartbeats 4000000 in
theorem claim : Cert.algebraic_Kernel2Ideal_Reference2Ideal_pre_finite_attention := by
  pair_intro
  · run_from Cert.Kernel2Ideal.Value.run_blocks m g
  · hlo_run
    · obtain ⟨hx, hg, hw, hK⟩ := finite_args (congrFun (hpre c))
      exact (kout_eq _ _ _ hx hg hw hK).symm.trans (arr10 m c).symm
    · exact (arr11 m c).symm
    · exact (arr12 m c).symm
    · exact (arr13 m c).symm
end Cert.Xattn
-- ==== Proof.FfnRun.lean ====
/- The feed-forward kernel's body obligation, run and frame.

   The grid's first 32 points each rewrite one block of 512 prompt rows; the last point rewrites the sample rows. The
   window of the prompt's result is therefore idle at the last point, where its block is still the one before, and
   the window of the sample's result is idle everywhere else. -/
module

public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3
public import proofs.«01_k».proof.Proof.Gen.Kernel3Ideal
public import proofs.«01_k».proof.Defs
public import Idealize.ShloMosaic.Lib.Claim

@[expose] public section

set_option maxRecDepth 16384

noncomputable section

namespace Cert.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points do what -/

theorem cond1_iff : ∀ t : Fin cfg0.N, k0_cond1 (grid0.coords t) = 1#1 ↔ t.val < 32 := by decide +kernel
theorem cond2_iff : ∀ t : Fin cfg0.N, k0_cond2 (grid0.coords t) = 1#1 ↔ t.val = 32 := by decide +kernel
theorem idle7_iff : ∀ t : Fin cfg0.N, cfg0.idle 7 (cfg0.grid.coords t) = decide (t.val = 32) := by decide +kernel
theorem idle8_iff : ∀ t : Fin cfg0.N, cfg0.idle 8 (cfg0.grid.coords t) = decide (t.val < 32) := by decide +kernel
theorem flush7_iff : ∀ t : Fin cfg0.N, (cfg0.win 7).flush t = decide (t.val ≠ 31) := by decide +kernel
theorem flush8_iff : ∀ t : Fin cfg0.N, (cfg0.win 8).flush t = decide (t.val = 32) := by decide +kernel

/-! ## What the body stores -/

abbrev rRow : Rect S512x1024 := Rect.unit (s := S512x1024) ![0, 0] S512x1024.size inb_S512x1024_S512x1024_0_0
abbrev rVec : Rect S1x1024 := Rect.unit (s := S1x1024) ![0, 0] S1x1024.size inb_S1x1024_S1x1024_0_0
abbrev rUp : Rect S1024x2816 := Rect.unit (s := S1024x2816) ![0, 0] S1024x2816.size inb_S1024x2816_S1024x2816_0_0
abbrev rDown : Rect S2816x1024 := Rect.unit (s := S2816x1024) ![0, 0] S2816x1024.size inb_S2816x1024_S2816x1024_0_0
abbrev rStep0 : Rect S128x4x1024 := Rect.unit (s := S128x4x1024) ![0, 0, 0] S128x1x1024.size inb_S128x4x1024_S128x1x1024_0_0_0
abbrev rStep1 : Rect S128x4x1024 := Rect.unit (s := S128x4x1024) ![0, 1, 0] S128x1x1024.size inb_S128x4x1024_S128x1x1024_0_1_0
abbrev rStep2 : Rect S128x4x1024 := Rect.unit (s := S128x4x1024) ![0, 2, 0] S128x1x1024.size inb_S128x4x1024_S128x1x1024_0_2_0
abbrev rStep3 : Rect S128x4x1024 := Rect.unit (s := S128x4x1024) ![0, 3, 0] S128x1x1024.size inb_S128x4x1024_S128x1x1024_0_3_0

section Stored
variable (x : Vec F S512x1024 .f32) (g : Vec F S1x1024 .f32) (a u : Vec F S1024x2816 .bf16) (d : Vec F S2816x1024 .bf16) (h : Vec F S1x1024 .f32)

/-- The feed-forward product of the rows `x`, before its norm. -/
def prod : FVec F S512x1024 .f32 := k0_pay8 (View.ld x rRow) (View.ld g rVec) (View.ld a rUp) (View.ld u rUp) (View.ld d rDown)

/-- The mean square of each row of that product, with the epsilon. -/
def mean : FVec F S512x1 .f32 := k0_pay10 (View.ld x rRow) (View.ld g rVec) (View.ld a rUp) (View.ld u rUp) (View.ld d rDown)

/-- What the prompt's result buffer holds after a point of the prompt rows. -/
def rows_p : Vec F S512x1024 .f32 :=
  View.canon [⟨rRow, k0_pay1 (k0_pay7 (View.ld x rRow)) (prod x g a u d) (k0_pay9 (View.ld h rVec)) (mean x g a u d)⟩]

/-- The sample's product and mean square, as the last point computes them. -/
def prod_s : FVec F S512x1024 .f32 := k0_pay12 (View.ld x rRow) (View.ld g rVec) (View.ld a rUp) (View.ld u rUp) (View.ld d rDown)
def mean_s : FVec F S512x1 .f32 := k0_pay14 (View.ld x rRow) (View.ld g rVec) (View.ld a rUp) (View.ld u rUp) (View.ld d rDown)

/-- What the sample's result buffer holds after the last point: one piece for each of the four steps. -/
def rows_s : Vec F S128x4x1024 .f32 :=
  View.canon [
    ⟨rStep3, k0_pay6 (k0_pay11 (View.ld x rRow)) (prod_s x g a u d) (k0_pay13 (View.ld h rVec)) (mean_s x g a u d)⟩,
    ⟨rStep2, k0_pay5 (k0_pay11 (View.ld x rRow)) (prod_s x g a u d) (k0_pay13 (View.ld h rVec)) (mean_s x g a u d)⟩,
    ⟨rStep1, k0_pay4 (k0_pay11 (View.ld x rRow)) (prod_s x g a u d) (k0_pay13 (View.ld h rVec)) (mean_s x g a u d)⟩,
    ⟨rStep0, k0_pay3 (k0_pay11 (View.ld x rRow)) (prod_s x g a u d) (k0_pay13 (View.ld h rVec)) (mean_s x g a u d)⟩]
end Stored

/-- One store fills the prompt's buffer. -/
theorem cover_p (p : Vec F S512x1024 .f32) (y : S512x1024.Idx) :
    ∃ pc ∈ ([⟨rRow, p⟩] : List (View.Piece (Elt F) S512x1024 .f32)), y ∈ pc.1.set :=
  View.cover_of_tiled [⟨rRow, p⟩] S512x1024.size (by rfl) y

/-- The four steps' stores fill the sample's buffer. -/
theorem cover_s (p0 p1 p2 p3 : Vec F S128x1x1024 .f32) (y : S128x4x1024.Idx) :
    ∃ pc ∈ ([⟨rStep3, p0⟩, ⟨rStep2, p1⟩, ⟨rStep1, p2⟩, ⟨rStep0, p3⟩] : List (View.Piece (Elt F) S128x4x1024 .f32)), y ∈ pc.1.set :=
  View.cover_of_tiled [⟨rStep3, p0⟩, ⟨rStep2, p1⟩, ⟨rStep1, p2⟩, ⟨rStep0, p3⟩] S128x1x1024.size (by rfl) y

/-! ## The body, one triple for each kind of point -/

set_option maxHeartbeats 2000000 in
/-- The body at a point of the prompt rows: window 7's buffer is left at `rows_p` of the blocks read, every other one as it was. -/
theorem rowsP (c : Dev nD) (E : Set ℕ) (i : grid0.Coords) (h1 : k0_cond1 i = 1#1) (h2 : ¬ k0_cond2 i = 1#1)
    (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S128x4x1024 .f32) (harg9 : arg9.IsWhole)
    (xp xs : Vec F S512x1024 .f32) (xg : Vec F S1x1024 .f32) (xa xu : Vec F S1024x2816 .bf16) (xd : Vec F S2816x1024 .bf16) (xh : Vec F S1x1024 .f32) (y9 : Vec F S128x4x1024 .f32) (K : PUnit → sProp 𝕄) :
    iprop(owns (c : Thread nD τ) arg1 fullShare xp ∗ owns (c : Thread nD τ) arg2 fullShare xs ∗ owns (c : Thread nD τ) arg3 fullShare xg ∗ owns (c : Thread nD τ) arg4 fullShare xa ∗ owns (c : Thread nD τ) arg5 fullShare xu ∗ owns (c : Thread nD τ) arg6 fullShare xd ∗ owns (c : Thread nD τ) arg7 fullShare xh ∗ (∃ d, owns (c : Thread nD τ) arg8 fullShare d) ∗ owns (c : Thread nD τ) arg9 fullShare y9
        ∗ (iprop(owns (c : Thread nD τ) arg1 fullShare xp ∗ owns (c : Thread nD τ) arg2 fullShare xs ∗ owns (c : Thread nD τ) arg3 fullShare xg ∗ owns (c : Thread nD τ) arg4 fullShare xa ∗ owns (c : Thread nD τ) arg5 fullShare xu ∗ owns (c : Thread nD τ) arg6 fullShare xd ∗ owns (c : Thread nD τ) arg7 fullShare xh ∗ owns (c : Thread nD τ) arg8 fullShare (rows_p xp xg xa xu xd xh) ∗ owns (c : Thread nD τ) arg9 fullShare y9) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9) K := by
  simp only [cc0_ffn_eq_skeleton]; unfold cc0_ffn_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf1 hf2 hf3 hf4 hf5 hf6 hf7 hf9
  sl_exec (disch := first | sl_exact h1 | sl_exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover_p _)).trans ?_
    rfl
  iexists f9; isplitr; · ipureintro; rfl
  iexact H9

set_option maxHeartbeats 2000000 in
/-- The body at the last point: window 8's buffer is left at `rows_s` of the blocks read, every other one as it was. -/
theorem rowsS (c : Dev nD) (E : Set ℕ) (i : grid0.Coords) (h1 : ¬ k0_cond1 i = 1#1) (h2 : k0_cond2 i = 1#1)
    (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S128x4x1024 .f32) (harg9 : arg9.IsWhole)
    (xp xs : Vec F S512x1024 .f32) (xg : Vec F S1x1024 .f32) (xa xu : Vec F S1024x2816 .bf16) (xd : Vec F S2816x1024 .bf16) (xh : Vec F S1x1024 .f32) (y8 : Vec F S512x1024 .f32) (K : PUnit → sProp 𝕄) :
    iprop(owns (c : Thread nD τ) arg1 fullShare xp ∗ owns (c : Thread nD τ) arg2 fullShare xs ∗ owns (c : Thread nD τ) arg3 fullShare xg ∗ owns (c : Thread nD τ) arg4 fullShare xa ∗ owns (c : Thread nD τ) arg5 fullShare xu ∗ owns (c : Thread nD τ) arg6 fullShare xd ∗ owns (c : Thread nD τ) arg7 fullShare xh ∗ owns (c : Thread nD τ) arg8 fullShare y8 ∗ (∃ d, owns (c : Thread nD τ) arg9 fullShare d)
        ∗ (iprop(owns (c : Thread nD τ) arg1 fullShare xp ∗ owns (c : Thread nD τ) arg2 fullShare xs ∗ owns (c : Thread nD τ) arg3 fullShare xg ∗ owns (c : Thread nD τ) arg4 fullShare xa ∗ owns (c : Thread nD τ) arg5 fullShare xu ∗ owns (c : Thread nD τ) arg6 fullShare xd ∗ owns (c : Thread nD τ) arg7 fullShare xh ∗ owns (c : Thread nD τ) arg8 fullShare y8 ∗ owns (c : Thread nD τ) arg9 fullShare (rows_s xs xg xa xu xd xh)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9) K := by
  simp only [cc0_ffn_eq_skeleton]; unfold cc0_ffn_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec (disch := first | sl_exact h1 | sl_exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (View.read_writes_eq_canon _ _ _ (cover_s _ _ _ _)).trans ?_
  rfl

/-! ## The pipeline's proof data -/

/-- The point whose block the prompt's result buffer holds after point `t`: the last point leaves the one before it. -/
def writer (t : Fin cfg0.N) : Fin cfg0.N := if t.val = 32 then ⟨31, by decide⟩ else t

/-- The arrays as the region finds them, and what each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rows_p (iblk m c 0 (writer t)) (iblk m c 2 (writer t)) (iblk m c 3 (writer t)) (iblk m c 4 (writer t)) (iblk m c 5 (writer t)) (iblk m c 6 (writer t))
    | ⟨8, _⟩ => rows_s (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = rows_p (iblk m c 0 (writer t)) (iblk m c 2 (writer t)) (iblk m c 3 (writer t)) (iblk m c 4 (writer t)) (iblk m c 5 (writer t)) (iblk m c 6 (writer t)) := by dsimp only [dats]
theorem after0_8 (c : Dev nD) (t : Fin cfg0.N) : (dats m 0 c).after 8 t = rows_s (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- At the last point the prompt's result buffer still holds what the point before left in it. -/
theorem before0_7_last (c : Dev nD) (t : Fin cfg0.N) (ht : t.val = 32) (d) : (dats m 0 c).before 7 t d = (dats m 0 c).after 7 t := by
  obtain rfl : t = ⟨32, by decide⟩ := Fin.ext ht
  rw [(dats m 0 c).before_of_pos 7 _ (by decide) ((cfg0.win 7).fetch_out rfl _), flush7_iff]
  rw [if_neg (by decide)]
  unfold Dat.left
  rw [idle7_iff]
  dsimp only
  rw [after0_7]
  unfold Dat.kept
  rw [show decide ((32 : ℕ) - 1 = 32) = false from rfl]
  dsimp only
  refine (Pipeline.fill_of_clip_none (cfg := cfg0) 7 _ (fun _ => rfl) d ((dats m 0 c).after 7 ⟨32 - 1, by decide⟩) _).trans ?_
  refine (Pipeline.Window.fill_cut _ _ _).trans ?_
  rw [after0_7]
  rfl

/-! ## The body obligation -/

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ (dats m 0 c).leavesExact 7 t ∗ (dats m 0 c).leavesExact 8 t)

/-- A point of the prompt rows. -/
theorem body_prompt (c : Dev nD) (t : Fin cfg0.N) (ht : t.val < 32) :
    bodyPre m c t ⊢ wp frame (wpE (defs₀ (F := F)) Variants.none c none) Set.univ (bodyAt0 t) (fun _ => bodyPost m c t) := by
  unfold bodyPre bodyPost bodyAt0
  rw [Dat.leavesExact_idle (dats m 0 c) 8 t (by rw [idle8_iff]; simpa using ht) (by rw [flush8_iff]; simp; omega)]
  rw [show (dats m 0 c).leavesExact 7 t = owns (c : Thread nD τ) (st0_7 t) fullShare ((dats m 0 c).after 7 t) from by
    unfold Dat.leavesExact; rw [idle7_iff, decide_eq_false (by omega)]]
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7,
    show writer t = t from if_neg (by omega)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (rowsP c Set.univ (grid0.coords t) ((cond1_iff t).mpr ht) (fun h => by have := (cond2_iff t).mp h; omega) _ _ _ _ _ _ _ _ _ _ _ _ _ _ _ _ _ _ (iblk m c 0 t) (iblk m c 1 t) (iblk m c 2 t) (iblk m c 3 t) (iblk m c 4 t) (iblk m c 5 t) (iblk m c 6 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

/-- The last point. -/
theorem body_sample (c : Dev nD) (t : Fin cfg0.N) (ht : t.val = 32) :
    bodyPre m c t ⊢ wp frame (wpE (defs₀ (F := F)) Variants.none c none) Set.univ (bodyAt0 t) (fun _ => bodyPost m c t) := by
  unfold bodyPre bodyPost bodyAt0
  rw [show (dats m 0 c).leavesExact 8 t = owns (c : Thread nD τ) (st0_8 t) fullShare ((dats m 0 c).after 8 t) from by
    unfold Dat.leavesExact; rw [idle8_iff, decide_eq_false (by omega)]]
  rw [show (dats m 0 c).leavesExact 7 t = owns (c : Thread nD τ) (st0_7 t) fullShare ((dats m 0 c).after 7 t) from by
    unfold Dat.leavesExact; rw [idle7_iff, decide_eq_true ht, flush7_iff, decide_eq_true (by omega)]]
  simp only [before0_0, before0_1, before0_2, before0_3, before0_4, before0_5, before0_6, before0_7_last m c t ht]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (rowsS c Set.univ (grid0.coords t) (fun h => by have := (cond1_iff t).mp h; omega) ((cond2_iff t).mpr ht) _ _ _ _ _ _ _ _ _ _ _ _ _ _ _ _ _ _ (iblk m c 0 t) (iblk m c 1 t) (iblk m c 2 t) (iblk m c 3 t) (iblk m c 4 t) (iblk m c 5 t) (iblk m c 6 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  refine triple_restated (P := bodyPre m c t) (Q := fun _ => bodyPost m c t) ?_ rfl .rfl fun _ => .rfl
  have hN : t.val < 33 := t.isLt
  rcases Nat.lt_or_ge t.val 32 with h | h
  · exact body_prompt m c t h
  · exact body_sample m c t (by omega)

/-! ## The run and the frames -/

set_option backward.isDefEq.respectTransparency.types false in
set_option maxHeartbeats 800000 in
/-- From any memory with its counters at zero, every run of the program ends, with the arrays the pipeline's data
    give and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments kept and the counters back at zero. -/
theorem kept : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Idealize.ShloMosaic.θ_run_and (frame_of m ρ (dats m) (A_eq m) (run_main m ρ)) ((θ_run defs _ _).mono (fun _ h => h.2) (run_quiescent m ρ))

/-- What the run leaves: the two results' arrays, and the arguments as they were. -/
theorem run_blocks : θ_run defs (onTc (τ := τ) (main (F := F))) ⟨m, fun _ => 0, ρ⟩ fun r => ∀ c : Dev nD,
      r.2.mem ((c : Thread nD τ).loc main_v8_0) = (dats m 0 c).arrAt 7 cfg0.N
      ∧ r.2.mem ((c : Thread nD τ).loc main_v8_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 7, (h c).1 8,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

theorem frame_ideal : Cert.quiescent_Kernel3Ideal := fun m ρ _ => kept m ρ

/-- The two programs' body tables are one table. -/
theorem bodies_eq : Cert.Kernel3.defs₀ (F := F) = Cert.Kernel3Ideal.defs₀ (F := F) := by
  unfold Cert.Kernel3.defs₀ Cert.Kernel3Ideal.defs₀
  refine congrArg _ ?_
  funext l x
  match l, x with
  | 0, x => rfl

theorem defs_eq : Cert.Kernel3.defs (F := F) = Cert.Kernel3Ideal.defs (F := F) :=
  congrArg (Pipeline.defs Cert.Kernel3Ideal.pcfgs) bodies_eq

theorem frame_kernel : Cert.quiescent_Kernel3 := fun m ρ _ => by
  rw [defs_eq]
  exact kept (F := Bits) m ρ

end Cert.Ffn

end
-- ==== Proof.FfnRef.lean ====
module

public import proofs.«01_k».proof.Proof.FfnRun
public import proofs.«01_k».proof.Proof.Common
public import proofs.«01_k».proof.Proof.Gen.Reference3Ideal.Run
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

namespace Cert.FfnRef

open Idealize.ShloMosaic Idealize.ShloMosaic.TcCoe Idealize.SL.Sem
open Cert.Reference3Ideal Cert.Reference3Ideal.Gen Cert.Layer Cert.Reference3Ideal.Facts

/-! ## The feed-forward layer's function of one row -/

/-- The hidden vector's entry `f`. -/
def hid (x g : Fin 1024 → EReal) (a u : Fin 1024 → Fin 2816 → EReal) (f : Fin 2816) : EReal :=
  (∑ k, nrm x g k * a k f) * Ideal.logistic (∑ k, nrm x g k * a k f) * (∑ k, nrm x g k * u k f)

/-- The projection back, at column `j`. -/
def out (x g : Fin 1024 → EReal) (a u : Fin 1024 → Fin 2816 → EReal) (d : Fin 2816 → Fin 1024 → EReal) (j : Fin 1024) : EReal :=
  ∑ f, hid x g a u f * d f j

/-- The row after the residual addition, at column `j`. -/
def row (x g : Fin 1024 → EReal) (a u : Fin 1024 → Fin 2816 → EReal) (d : Fin 2816 → Fin 1024 → EReal) (g' : Fin 1024 → EReal) (j : Fin 1024) : EReal :=
  x j + nrm (out x g a u d) g' j

/-! ## The reference's vectors, the prompt group -/

def normed_p (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

theorem normed_p_apply (x : FVec Ideal S8x2048x1024 .f32) (g : FVec Ideal S1024 .f32) (b : Fin 8) (r : Fin 2048) (k : Fin 1024) :
    normed_p x g (ix3 b r k) = nrm (fun k => x (ix3 b r k)) (fun k => g (ix1 k)) k := by
  unfold normed_p; pointwise; rfl

/-- A projection to the hidden width. -/
def up_p (h : FVec Ideal S8x2048x1024 .f32) (w : FVec Ideal S1024x2816 .f32) : FVec Ideal S8x2048x2816 .f32 :=
  Host.dotGeneral (F := Ideal) dot_S8x2048x1024_S1024x2816_S8x2048x2816_2_0_01_1_n_n none h w

theorem up_p_apply (h : FVec Ideal S8x2048x1024 .f32) (w : FVec Ideal S1024x2816 .f32) (b : Fin 8) (r : Fin 2048) (f : Fin 2816) :
    up_p h w (ix3 b r f) = ∑ k, h (ix3 b r k) * w (ix2 k f) := by
  unfold up_p; pointwise

/-- The gated hidden vector. -/
def gated_p (a u : FVec Ideal S8x2048x2816 .f32) : FVec Ideal S8x2048x2816 .f32 :=
  mulf (mulf a (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf a))))) u

theorem gated_p_apply (a u : FVec Ideal S8x2048x2816 .f32) (b : Fin 8) (r : Fin 2048) (f : Fin 2816) :
    gated_p a u (ix3 b r f) = a (ix3 b r f) * Ideal.logistic (a (ix3 b r f)) * u (ix3 b r f) := by
  unfold gated_p; pointwise; rfl

/-- The projection back. -/
def down_p (h : FVec Ideal S8x2048x2816 .f32) (w : FVec Ideal S2816x1024 .f32) : FVec Ideal S8x2048x1024 .f32 :=
  Host.dotGeneral (F := Ideal) dot_S8x2048x2816_S2816x1024_S8x2048x1024_2_0_01_1_n_n none h w

theorem down_p_apply (h : FVec Ideal S8x2048x2816 .f32) (w : FVec Ideal S2816x1024 .f32) (b : Fin 8) (r : Fin 2048) (j : Fin 1024) :
    down_p h w (ix3 b r j) = ∑ f, h (ix3 b r f) * w (ix2 f j) := by
  unfold down_p; pointwise

/-- The group's rows, as a function of the arguments. -/
def rows_p (x : FVec Ideal S8x2048x1024 .f32) (g : FVec Ideal S1024 .f32) (a u : FVec Ideal S1024x2816 .f32) (d : FVec Ideal S2816x1024 .f32) (g' : FVec Ideal S1024 .f32) : FVec Ideal S8x2048x1024 .f32 :=
  addf x (normed_p (down_p (gated_p (up_p (normed_p x g) a) (up_p (normed_p x g) u)) d) g')

theorem rows_p_apply (x : FVec Ideal S8x2048x1024 .f32) (g : FVec Ideal S1024 .f32) (a u : FVec Ideal S1024x2816 .f32) (d : FVec Ideal S2816x1024 .f32) (g' : FVec Ideal S1024 .f32) (b : Fin 8) (r : Fin 2048) (j : Fin 1024) :
    rows_p x g a u d g' (ix3 b r j) = row (fun k => x (ix3 b r k)) (fun k => g (ix1 k)) (fun k f => a (ix2 k f)) (fun k f => u (ix2 k f)) (fun f j => d (ix2 f j)) (fun k => g' (ix1 k)) j := by
  unfold rows_p
  pointwise [normed_p_apply, down_p_apply, gated_p_apply, up_p_apply]
  rfl

/-! ## The reference's vectors, the sample group -/

def normed_s (x : FVec Ideal S128x4x1024 .f32) (g : FVec Ideal S1024 .f32) : FVec Ideal S128x4x1024 .f32 :=
  mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 g))

theorem normed_s_apply (x : FVec Ideal S128x4x1024 .f32) (g : FVec Ideal S1024 .f32) (b : Fin 128) (r : Fin 4) (k : Fin 1024) :
    normed_s x g (ix3 b r k) = nrm (fun k => x (ix3 b r k)) (fun k => g (ix1 k)) k := by
  unfold normed_s; pointwise; rfl

/-- A projection to the hidden width. -/
def up_s (h : FVec Ideal S128x4x1024 .f32) (w : FVec Ideal S1024x2816 .f32) : FVec Ideal S128x4x2816 .f32 :=
  Host.dotGeneral (F := Ideal) dot_S128x4x1024_S1024x2816_S128x4x2816_2_0_01_1_n_n none h w

theorem up_s_apply (h : FVec Ideal S128x4x1024 .f32) (w : FVec Ideal S1024x2816 .f32) (b : Fin 128) (r : Fin 4) (f : Fin 2816) :
    up_s h w (ix3 b r f) = ∑ k, h (ix3 b r k) * w (ix2 k f) := by
  unfold up_s; pointwise

/-- The gated hidden vector. -/
def gated_s (a u : FVec Ideal S128x4x2816 .f32) : FVec Ideal S128x4x2816 .f32 :=
  mulf (mulf a (Host.divf (broadcastInDim S128x4x2816 ![] bcast_S_S128x4x2816 (constant S_ .f32 0x3F800000#32)) (addf (broadcastInDim S128x4x2816 ![] bcast_S_S128x4x2816 (constant S_ .f32 0x3F800000#32)) (Host.exp (Host.negf a))))) u

theorem gated_s_apply (a u : FVec Ideal S128x4x2816 .f32) (b : Fin 128) (r : Fin 4) (f : Fin 2816) :
    gated_s a u (ix3 b r f) = a (ix3 b r f) * Ideal.logistic (a (ix3 b r f)) * u (ix3 b r f) := by
  unfold gated_s; pointwise; rfl

/-- The projection back. -/
def down_s (h : FVec Ideal S128x4x2816 .f32) (w : FVec Ideal S2816x1024 .f32) : FVec Ideal S128x4x1024 .f32 :=
  Host.dotGeneral (F := Ideal) dot_S128x4x2816_S2816x1024_S128x4x1024_2_0_01_1_n_n none h w

theorem down_s_apply (h : FVec Ideal S128x4x2816 .f32) (w : FVec Ideal S2816x1024 .f32) (b : Fin 128) (r : Fin 4) (j : Fin 1024) :
    down_s h w (ix3 b r j) = ∑ f, h (ix3 b r f) * w (ix2 f j) := by
  unfold down_s; pointwise

/-- The group's rows, as a function of the arguments. -/
def rows_s (x : FVec Ideal S128x4x1024 .f32) (g : FVec Ideal S1024 .f32) (a u : FVec Ideal S1024x2816 .f32) (d : FVec Ideal S2816x1024 .f32) (g' : FVec Ideal S1024 .f32) : FVec Ideal S128x4x1024 .f32 :=
  addf x (normed_s (down_s (gated_s (up_s (normed_s x g) a) (up_s (normed_s x g) u)) d) g')

theorem rows_s_apply (x : FVec Ideal S128x4x1024 .f32) (g : FVec Ideal S1024 .f32) (a u : FVec Ideal S1024x2816 .f32) (d : FVec Ideal S2816x1024 .f32) (g' : FVec Ideal S1024 .f32) (b : Fin 128) (r : Fin 4) (j : Fin 1024) :
    rows_s x g a u d g' (ix3 b r j) = row (fun k => x (ix3 b r k)) (fun k => g (ix1 k)) (fun k f => a (ix2 k f)) (fun k f => u (ix2 k f)) (fun f j => d (ix2 f j)) (fun k => g' (ix1 k)) j := by
  unfold rows_s
  pointwise [normed_s_apply, down_s_apply, gated_s_apply, up_s_apply]
  rfl

/-- The prompt's rows, every sequence's one after another. -/
def flat (y : FVec Ideal S8x2048x1024 .f32) : FVec Ideal S16384x1024 .f32 := shapeCast _ y shapeCasts_S8x2048x1024_S16384x1024

theorem flat_apply (y : FVec Ideal S8x2048x1024 .f32) (r : Fin 16384) (j : Fin 1024) :
    flat y (ix2 r j) = y (ix3 ⟨r.val / 2048, by omega⟩ ⟨r.val % 2048, by omega⟩ j) := by
  unfold flat; pointwise

end Cert.FfnRef
-- ==== Proof.FfnValue.lean ====
module

public import proofs.«01_k».proof.Proof.FfnRun
public import proofs.«01_k».proof.Proof.FfnRef
public import proofs.«01_k».proof.Proof.Common
public import proofs.«01_k».proof.Proof.Gen.Reference3Ideal.Run
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

namespace Cert.Ffn

open Idealize.ShloMosaic Idealize.ShloMosaic.TcCoe Idealize.SL.Sem
open Cert.Kernel3Ideal Cert.Kernel3Ideal.Gen Cert.Layer Cert.FfnRef

/-! ## What the body's vectors hold -/

section Block
variable (x : Vec Ideal S512x1024 .f32) (g : Vec Ideal S1x1024 .f32) (a u : Vec Ideal S1024x2816 .bf16) (d : Vec Ideal S2816x1024 .bf16) (h : Vec Ideal S1x1024 .f32)

/-- Row `i` of a block of 512 rows, at column `j`, after the layer. -/
def blockRow (i : Fin 512) (j : Fin 1024) : EReal :=
  row (fun k => x (ix2 i k)) (fun k => g (ix2 0 k)) (fun k f => a (ix2 k f)) (fun k f => u (ix2 k f)) (fun f j => d (ix2 f j)) (fun k => h (ix2 0 k)) j

theorem pay8_apply (i : Fin 512) (j : Fin 1024) :
    k0_pay8 x g a u d (ix2 i j) = out (fun k => x (ix2 i k)) (fun k => g (ix2 0 k)) (fun k f => a (ix2 k f)) (fun k f => u (ix2 k f)) (fun f j => d (ix2 f j)) j := by
  pointwise [k0_pay8, k0_pay7]
  unfold out hid nrm
  rfl

/-- The rows of the prompt's block after the layer. -/
theorem pay1_apply (i : Fin 512) (j : Fin 1024) :
    k0_pay1 (k0_pay7 x) (k0_pay8 x g a u d) (k0_pay9 h) (k0_pay10 x g a u d) (ix2 i j) = blockRow x g a u d h i j := by
  pointwise [k0_pay1, k0_pay7, k0_pay9, k0_pay10, pay8_apply]
  rfl

/-- The last point computes the sample's rows by the same operations. -/
theorem pay2_apply (i : Fin 512) (j : Fin 1024) :
    k0_pay2 (k0_pay11 x) (k0_pay12 x g a u d) (k0_pay13 h) (k0_pay14 x g a u d) (ix2 i j) = blockRow x g a u d h i j :=
  pay1_apply x g a u d h i j

theorem rows_p_apply (i : Fin 512) (j : Fin 1024) : Ffn.rows_p x g a u d h (ix2 i j) = blockRow x g a u d h i j := by
  refine Eq.trans ?_ (pay1_apply x g a u d h i j)
  unfold Ffn.rows_p Ffn.prod Ffn.mean
  frame_out

/-- The pieces stored for the four steps are the block's four quarters. -/
theorem quarter (v : FVec Ideal S512x1024 .f32) (p : FVec Ideal S512x1024 .f32) (w : FVec Ideal S1x1024 .f32) (n : FVec Ideal S512x1 .f32) (b : Fin 128) (j : Fin 1024) :
    k0_pay3 v p w n (ix3 b 0 j) = k0_pay2 v p w n (ix2 ⟨0 * 128 + b.val, by omega⟩ j)
    ∧ k0_pay4 v p w n (ix3 b 0 j) = k0_pay2 v p w n (ix2 ⟨1 * 128 + b.val, by omega⟩ j)
    ∧ k0_pay5 v p w n (ix3 b 0 j) = k0_pay2 v p w n (ix2 ⟨2 * 128 + b.val, by omega⟩ j)
    ∧ k0_pay6 v p w n (ix3 b 0 j) = k0_pay2 v p w n (ix2 ⟨3 * 128 + b.val, by omega⟩ j) := by
  refine ⟨?_, ?_, ?_, ?_⟩
  · pointwise [k0_pay3]
  · pointwise [k0_pay4]
  · pointwise [k0_pay5]
  · pointwise [k0_pay6]

theorem ext_step {x : S128x1x1024.Idx} {b : Fin 128} {j : Fin 1024} (h0 : b.val = (x 0).val) (h2 : j.val = (x 2).val) : x = ix3 b 0 j := by
  funext a
  match a with
  | ⟨0, _⟩ => exact Fin.ext h0.symm
  | ⟨1, _⟩ => exact (Subsingleton.elim (α := Fin 1) _ _)
  | ⟨2, _⟩ => exact Fin.ext h2.symm

/-- Step `s` of sequence `b` is row `s * 128 + b` of the block. -/
theorem rows_s_apply (b : Fin 128) (s : Fin 4) (j : Fin 1024) :
    Ffn.rows_s x g a u d h (ix3 b s j) = blockRow x g a u d h ⟨s.val * 128 + b.val, by omega⟩ j := by
  refine Eq.trans ?_ (pay2_apply x g a u d h _ j)
  have e0 : View.ld x rRow = x := by frame_out
  have e1 : View.ld g rVec = g := by frame_out
  have e2 : View.ld a rUp = a := by frame_out
  have e3 : View.ld u rUp = u := by frame_out
  have e4 : View.ld d rDown = d := by frame_out
  have e5 : View.ld h rVec = h := by frame_out
  unfold Ffn.rows_s Ffn.prod_s Ffn.mean_s
  rw [e0, e1, e2, e3, e4, e5]
  canon_tiles
  all_goals
    obtain rfl := ext_step (x := x) (b := b) (j := j) h0 h2
  · obtain rfl : s = 3 := by ext; simpa using h1
    exact (quarter ..).2.2.2
  · obtain rfl : s = 2 := by ext; simpa using h1
    exact (quarter ..).2.2.1
  · obtain rfl : s = 1 := by ext; simpa using h1
    exact (quarter ..).2.1
  · obtain rfl : s = 0 := by ext; simpa using h1
    exact (quarter ..).1
end Block

/-! ## The blocks of a grid point -/

variable (m : (ℓ : Loc nD τ sig) → Buf (Elt Ideal) ℓ) (c : Dev nD)

theorem idx : ∀ t, win0_0.index t = ![min (grid0.coords t 0).val 31, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![min (grid0.coords t 0).val 31, 0] ∧ win0_8.index t = ![0, 0, 0] := by decide +kernel

theorem blk0 (t : Fin cfg0.N) (i : Fin 512) (k : Fin 1024) (r : Fin 16384) (h : r.val = min (grid0.coords t 0).val 31 * 512 + i) :
    iblk m c 0 t (ix2 i k) = m ((c : Thread nD τ).loc main_arg0) (ix3 ⟨r / 2048, by omega⟩ ⟨r % 2048, by omega⟩ k) := by
  blk_simp [iblk, idx t]; entry_read; pointwise; blk_ext [iblk, idx t, h]

theorem blk1 (t : Fin cfg0.N) (b : Fin 128) (s : Fin 4) (k : Fin 1024) :
    iblk m c 1 t (ix2 ⟨s.val * 128 + b.val, by omega⟩ k) = m ((c : Thread nD τ).loc main_arg1) (ix3 b s k) := by
  blk_simp [iblk, idx t]; entry_read; pointwise; blk_ext [iblk, idx t]

theorem blk2 (t : Fin cfg0.N) (k : Fin 1024) : iblk m c 2 t (ix2 0 k) = m ((c : Thread nD τ).loc main_arg2) (ix1 k) := by
  blk_ext! [iblk, V, idx t]

theorem blk3 (t : Fin cfg0.N) (k : Fin 1024) (f : Fin 2816) : iblk m c 3 t (ix2 k f) = m ((c : Thread nD τ).loc main_arg3) (ix2 k f) := by
  blk_ext [iblk, V, idx t]

theorem blk4 (t : Fin cfg0.N) (k : Fin 1024) (f : Fin 2816) : iblk m c 4 t (ix2 k f) = m ((c : Thread nD τ).loc main_arg4) (ix2 k f) := by
  blk_ext [iblk, V, idx t]

theorem blk5 (t : Fin cfg0.N) (f : Fin 2816) (j : Fin 1024) : iblk m c 5 t (ix2 f j) = m ((c : Thread nD τ).loc main_arg5) (ix2 f j) := by
  blk_ext [iblk, V, idx t]

theorem blk6 (t : Fin cfg0.N) (k : Fin 1024) : iblk m c 6 t (ix2 0 k) = m ((c : Thread nD τ).loc main_arg6) (ix1 k) := by
  blk_ext! [iblk, V, idx t]

/-! ## What the output arrays hold -/

theorem row_congr {x x' g g' : Fin 1024 → EReal} {a a' u u' : Fin 1024 → Fin 2816 → EReal} {d d' : Fin 2816 → Fin 1024 → EReal} {h h' : Fin 1024 → EReal} {j j' : Fin 1024}
    (hx : x = x') (hg : g = g') (ha : a = a') (hu : u = u') (hd : d = d') (hh : h = h') (hj : j = j') : row x g a u d h j = row x' g' a' u' d' h' j' := by
  subst hx hg ha hu hd hh hj; rfl

/-- The point whose block is written back has the index of the point that computed it. -/
theorem writer_idx : ∀ t : Fin cfg0.N, min (grid0.coords (writer t) 0).val 31 = min (grid0.coords t 0).val 31 := by decide +kernel

theorem arr7 : (dats m 0 c).arrAt 7 (cfgs 0).N = fun i : S16384x1024.Idx =>
    flat (FfnRef.rows_p (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6))) (ix2 (i 0) (i 1)) := by
  refine (dats m 0 c).arrAt_eq_of_covers 7 _ (by decide +kernel) fun t hf y => ?_
  blk_simp
  rw [after0_7]
  obtain ⟨i, j, rfl⟩ : ∃ (i : Fin 512) (j : Fin 1024), y = ix2 i j := ⟨y 0, y 1, eq_ix2 y⟩
  refine (rows_p_apply (iblk m c 0 _) (iblk m c 2 _) (iblk m c 3 _) (iblk m c 4 _) (iblk m c 5 _) (iblk m c 6 _) i j).trans ?_
  have key : ∀ (r : Fin 16384) (j' : Fin 1024), r.val = min (grid0.coords t 0).val 31 * 512 + i → j'.val = j.val →
      blockRow (iblk m c 0 (writer t)) (iblk m c 2 (writer t)) (iblk m c 3 (writer t)) (iblk m c 4 (writer t)) (iblk m c 5 (writer t)) (iblk m c 6 (writer t)) i j
        = flat (FfnRef.rows_p (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6))) (ix2 r j') := by
    intro r j' hr hj
    obtain rfl := Fin.ext hj
    rw [flat_apply, FfnRef.rows_p_apply]
    unfold blockRow
    exact row_congr (funext fun k => blk0 m c (writer t) i k r (by rw [writer_idx]; exact hr)) (funext fun k => blk2 m c _ k)
      (funext fun k => funext fun f => blk3 m c _ k f) (funext fun k => funext fun f => blk4 m c _ k f)
      (funext fun f => funext fun j => blk5 m c _ f j) (funext fun k => blk6 m c _ k) rfl
  refine key _ _ ?_ ?_ <;> blk_simp [idx t]

theorem arr8 : (dats m 0 c).arrAt 8 (cfgs 0).N = fun i : S128x4x1024.Idx =>
    FfnRef.rows_s (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (ix3 (i 0) (i 1) (i 2)) := by
  refine (dats m 0 c).arrAt_eq_of_covers 8 _ (by decide +kernel) fun t hf y => ?_
  blk_simp
  rw [after0_8]
  obtain ⟨b, s, j, rfl⟩ : ∃ (b : Fin 128) (s : Fin 4) (j : Fin 1024), y = ix3 b s j := ⟨y 0, y 1, y 2, eq_ix3 y⟩
  refine (rows_s_apply (iblk m c 1 _) (iblk m c 2 _) (iblk m c 3 _) (iblk m c 4 _) (iblk m c 5 _) (iblk m c 6 _) b s j).trans ?_
  have key : ∀ (b' : Fin 128) (s' : Fin 4) (j' : Fin 1024), b'.val = b.val → s'.val = s.val → j'.val = j.val →
      blockRow (iblk m c 1 t) (iblk m c 2 t) (iblk m c 3 t) (iblk m c 4 t) (iblk m c 5 t) (iblk m c 6 t) ⟨s.val * 128 + b.val, by omega⟩ j
        = FfnRef.rows_s (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (ix3 b' s' j') := by
    intro b' s' j' hb hs hj
    obtain rfl := Fin.ext hb
    obtain rfl := Fin.ext hs
    obtain rfl := Fin.ext hj
    rw [FfnRef.rows_s_apply]
    unfold blockRow
    exact row_congr (funext fun k => blk1 m c t _ _ k) (funext fun k => blk2 m c _ k)
      (funext fun k => funext fun f => blk3 m c _ k f) (funext fun k => funext fun f => blk4 m c _ k f)
      (funext fun f => funext fun j => blk5 m c _ f j) (funext fun k => blk6 m c _ k) rfl
  refine key _ _ _ ?_ ?_ ?_ <;> blk_simp [idx t]

set_option maxHeartbeats 4000000 in
theorem claim : Cert.algebraic_Kernel3Ideal_Reference3Ideal := by
  pair_intro
  · run_from run_blocks m g
  · hlo_run
    · refine Eq.trans ?_ (arr7 m c).symm
      funext i
      exact congrArg _ (eq_ix2 i)
    · refine Eq.trans ?_ (arr8 m c).symm
      funext i
      exact congrArg _ (eq_ix3 i)

end Cert.Ffn
-- ==== Proof.MemKv.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

namespace Cert.MemKv

open Idealize.ShloMosaic Idealize.ShloMosaic.TcCoe Idealize.SL.Sem
open Cert.Kernel4Ideal Cert.Kernel4Ideal.Gen

/-- The root-mean-square norm of one row, at one column. -/
def nrm (x : Fin 1024 → EReal) (g : Fin 1024 → EReal) (k : Fin 1024) : EReal :=
  x k * Ideal.rsqrt (Ideal.div (∑ j, x j * x j) (Ideal.ofBits FTy.f32 1149239296#32) + Ideal.ofBits FTy.f32 897988541#32) * g k

/-- One entry of the projection of the normed row `r` of the memory. -/
def proj (x : Vec Ideal S8x256x1024 .f32) (g : Vec Ideal S1024 .f32) (w : Vec Ideal S1024x1024 .f32)
    (r : Fin 2048) (j : Fin 1024) : EReal :=
  ∑ k, nrm (fun k => x (ix3 ⟨r / 256, by omega⟩ ⟨r % 256, by omega⟩ k)) (fun k => g (ix1 k)) k * w (ix2 k j)

/-- The column of head `h`'s lane `k` among the heads side by side. -/
def col (h : Fin 4) (k : Fin 256) : Fin 1024 := ⟨h * 256 + k, by omega⟩

variable (m : (ℓ : Loc nD τ sig) → Buf (Elt Ideal) ℓ) (c : Dev nD)

theorem pay8_apply (x : Vec Ideal S512x1024 .f32) (g : Vec Ideal S1x1024 .f32) (i : Fin 512) (k : Fin 1024) :
    k0_pay8 x g (ix2 i k) = nrm (fun k => x (ix2 i k)) (fun k => g (ix2 0 k)) k := by
  pointwise [k0_pay8]; rfl

theorem pay9_apply (x : Vec Ideal S512x1024 .f32) (g : Vec Ideal S1x1024 .f32) (w : Vec Ideal S1024x1024 .bf16) (i : Fin 512) (j : Fin 1024) :
    k0_pay9 x g w (ix2 i j) = ∑ k, nrm (fun k => x (ix2 i k)) (fun k => g (ix2 0 k)) k * w (ix2 k j) := by
  pointwise [k0_pay9, pay8_apply]

theorem idx : ∀ t, win0_0.index t = ![(grid0.coords t 0).val, 0] ∧ win0_1.index t = ![0, 0] ∧ win0_2.index t = ![0, 0]
    ∧ win0_3.index t = ![0, 0] ∧ win0_4.index t = ![(grid0.coords t 0).val, 0]
    ∧ win0_5.index t = ![(grid0.coords t 0).val, 0] ∧ win0_6.index t = ![(grid0.coords t 0).val, 0, 0] ∧ win0_7.index t = ![(grid0.coords t 0).val, 0, 0] := by decide +kernel

/-! ## The blocks of a grid point -/

theorem blk0 (t : Fin cfg0.N) (i : Fin 512) (k : Fin 1024) (r : Fin 2048) (h : r.val = (grid0.coords t 0).val * 512 + i) :
   iblk m c 0 t (ix2 i k) = m ((c : Thread nD τ).loc main_arg0) (ix3 ⟨r / 256, by omega⟩ ⟨r % 256, by omega⟩ k) := by
  blk_simp [iblk, idx t]; entry_read; pointwise; blk_ext [iblk, idx t, h]

theorem blk3 (t : Fin cfg0.N) (k j : Fin 1024) :
   iblk m c 3 t (ix2 k j) = m ((c : Thread nD τ).loc main_arg3) (ix2 k j) := by
  blk_ext [iblk, V, idx t]
theorem blk1 (t : Fin cfg0.N) (k : Fin 1024) :
   iblk m c 1 t (ix2 0 k) = m ((c : Thread nD τ).loc main_arg1) (ix1 k) := by
  blk_ext! [iblk, V, idx t]
theorem blk2 (t : Fin cfg0.N) (k j : Fin 1024) :
   iblk m c 2 t (ix2 k j) = m ((c : Thread nD τ).loc main_arg2) (ix2 k j) := by
  blk_ext [iblk, V, idx t]

/-- The key vector of a grid point is the projection of its rows. -/
theorem keys (t : Fin cfg0.N) (i : Fin 512) (j : Fin 1024) (r : Fin 2048) (q : Fin 1024)
    (h : r.val = (grid0.coords t 0).val * 512 + i) (hq : q.val = j.val) :
    k0_pay9 (F := Ideal) (iblk m c 0 t) (iblk m c 1 t) (iblk m c 2 t) (ix2 i j)
      = proj (m ((c : Thread nD τ).loc main_arg0)) (m ((c : Thread nD τ).loc main_arg1)) (m ((c : Thread nD τ).loc main_arg2)) r q := by
  obtain rfl : q = j := Fin.ext hq
  rw [pay9_apply]
  refine Finset.sum_congr rfl fun k _ => ?_
  simp only [blk0 m c t i _ r h, blk1, blk2]

/-- The value vector of a grid point, likewise. -/
theorem vals (t : Fin cfg0.N) (i : Fin 512) (j : Fin 1024) (r : Fin 2048) (q : Fin 1024)
    (h : r.val = (grid0.coords t 0).val * 512 + i) (hq : q.val = j.val) :
    k0_pay10 (F := Ideal) (iblk m c 0 t) (iblk m c 1 t) (iblk m c 3 t) (ix2 i j)
      = proj (m ((c : Thread nD τ).loc main_arg0)) (m ((c : Thread nD τ).loc main_arg1)) (m ((c : Thread nD τ).loc main_arg3)) r q := by
  obtain rfl : q = j := Fin.ext hq
  refine (pay9_apply _ _ _ i q).trans ?_
  refine Finset.sum_congr rfl fun k _ => ?_
  simp only [blk0 m c t i _ r h, blk1, blk3]

/-! ## What the output arrays hold -/

theorem arr4  : (dats m 0 c).arrAt 4 (cfgs 0).N = fun i : S2048x1024.Idx =>
   proj (m ((c : Thread nD τ).loc main_arg0)) (m ((c : Thread nD τ).loc main_arg1)) (m ((c : Thread nD τ).loc main_arg2)) (i 0) (i 1) := by
  refine (dats m 0 c).arrAt_eq_of_covers 4 _ (by decide +kernel) fun t hf y => ?_
  blk_simp
  rw [after0_4]
  frame_out
  obtain ⟨i, j, rfl⟩ : ∃ (i : Fin 512) (j : Fin 1024), y = ix2 i j := ⟨y 0, y 1, eq_ix2 y⟩
  refine keys m c t i j _ _ ?_ ?_ <;> blk_simp [idx t] <;> rfl

theorem arr5  : (dats m 0 c).arrAt 5 (cfgs 0).N = fun i : S2048x1024.Idx =>
   proj (m ((c : Thread nD τ).loc main_arg0)) (m ((c : Thread nD τ).loc main_arg1)) (m ((c : Thread nD τ).loc main_arg3)) (i 0) (i 1) := by
  refine (dats m 0 c).arrAt_eq_of_covers 5 _ (by decide +kernel) fun t hf y => ?_
  blk_simp
  rw [after0_5]
  frame_out
  obtain ⟨i, j, rfl⟩ : ∃ (i : Fin 512) (j : Fin 1024), y = ix2 i j := ⟨y 0, y 1, eq_ix2 y⟩
  refine vals m c t i j _ _ ?_ ?_ <;> blk_simp [idx t] <;> rfl

theorem out6 (x0 : Vec Ideal S512x1024 .f32) (x1 : Vec Ideal S1x1024 .f32) (x2 x3 : Vec Ideal S1024x1024 .bf16)
    (i : Fin 512) (h : Fin 4) (k : Fin 256) :
    out0_6 x0 x1 x2 x3 (ix3 i h k) = k0_pay9 x0 x1 x2 (ix2 i (col h k)) := by
  have e : Value.ix6_0 (ix3 i h k) = ix2 i (col h k) := by
    funext a; match a with | ⟨0, _⟩ => rfl | ⟨1, _⟩ => rfl
  refine (Value.canon6_eq (View.ld x0 r0_0) (View.ld x1 r0_1) (View.ld x2 r0_2) _).trans ((congrArg _ e).trans ?_)
  frame_out

theorem out7 (x0 : Vec Ideal S512x1024 .f32) (x1 : Vec Ideal S1x1024 .f32) (x2 x3 : Vec Ideal S1024x1024 .bf16)
    (i : Fin 512) (h : Fin 4) (k : Fin 256) :
    out0_7 x0 x1 x2 x3 (ix3 i h k) = k0_pay10 x0 x1 x3 (ix2 i (col h k)) := by
  have e : Value.ix7_0 (ix3 i h k) = ix2 i (col h k) := by
    funext a; match a with | ⟨0, _⟩ => rfl | ⟨1, _⟩ => rfl
  refine (Value.canon7_eq (View.ld x0 r0_0) (View.ld x1 r0_1) (View.ld x3 r0_2) _).trans ((congrArg _ e).trans ?_)
  frame_out

theorem arr6  : (dats m 0 c).arrAt 6 (cfgs 0).N = fun i : S2048x4x256.Idx =>
   proj (m ((c : Thread nD τ).loc main_arg0)) (m ((c : Thread nD τ).loc main_arg1)) (m ((c : Thread nD τ).loc main_arg2)) (i 0) (col (i 1) (i 2)) := by
  refine (dats m 0 c).arrAt_eq_of_covers 6 _ (by decide +kernel) fun t hf y => ?_
  blk_simp
  rw [after0_6]
  obtain ⟨i, j, k, rfl⟩ : ∃ (i : Fin 512) (j : Fin 4) (k : Fin 256), y = ix3 i j k := ⟨y 0, y 1, y 2, eq_ix3 y⟩
  refine (out6 (iblk m c 0 t) (iblk m c 1 t) (iblk m c 2 t) (iblk m c 3 t) i j k).trans ?_
  refine keys m c t i (col j k) _ _ ?_ ?_ <;> (try unfold col) <;> blk_simp [idx t]

theorem arr7  : (dats m 0 c).arrAt 7 (cfgs 0).N = fun i : S2048x4x256.Idx =>
   proj (m ((c : Thread nD τ).loc main_arg0)) (m ((c : Thread nD τ).loc main_arg1)) (m ((c : Thread nD τ).loc main_arg3)) (i 0) (col (i 1) (i 2)) := by
  refine (dats m 0 c).arrAt_eq_of_covers 7 _ (by decide +kernel) fun t hf y => ?_
  blk_simp
  rw [after0_7]
  obtain ⟨i, j, k, rfl⟩ : ∃ (i : Fin 512) (j : Fin 4) (k : Fin 256), y = ix3 i j k := ⟨y 0, y 1, y 2, eq_ix3 y⟩
  refine (out7 (iblk m c 0 t) (iblk m c 1 t) (iblk m c 2 t) (iblk m c 3 t) i j k).trans ?_
  refine vals m c t i (col j k) _ _ ?_ ?_ <;> (try unfold col) <;> blk_simp [idx t]

theorem claim : Cert.algebraic_Kernel4Ideal_Reference4Ideal := by
  pair_intro
  · run_from Cert.Kernel4Ideal.Value.run_blocks m g
  · hlo_run
    · rw [arr4 m c]; funext i; clean_types; pointwise [proj, nrm]; simp only [Nat.div_add_mod', Fin.eta]; rfl
    · rw [arr5 m c]; funext i; clean_types; pointwise [proj, nrm]; simp only [Nat.div_add_mod', Fin.eta]; rfl
    · rw [arr6 m c]; funext i; clean_types; pointwise [proj, nrm, col]
    · rw [arr7 m c]; funext i; clean_types; pointwise [proj, nrm, col]

end Cert.MemKv
-- ==== Proof.Pack.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

namespace Cert.Pack

open Idealize.ShloMosaic Idealize.ShloMosaic.TcCoe Idealize.SL.Sem
open Cert.Kernel5Ideal Cert.Kernel5Ideal.Gen

/-- The packed weight's entry at row `k` and column `j`, from the weight's rows. -/
def packed (w : Fin 1024 → Fin 2312 → EReal) (k : Fin 1024) (j : Fin 2432) : EReal :=
  if h : j.val < 1536 then w k ⟨j, by omega⟩
  else if h : j.val < 2048 then w k ⟨j + 8, by omega⟩ * Ideal.ofBits FTy.f32 0x3E000000#32
  else if h : j.val < 2304 then w k ⟨j + 8, by omega⟩
  else if h : j.val < 2312 then w k ⟨j - 768, by omega⟩
  else Ideal.ofBits FTy.f32 0x00000000#32

variable (m : (ℓ : Loc nD τ sig) → Buf (Elt Ideal) ℓ) (c : Dev nD)

theorem idx : ∀ t, win0_0.index t = ![0, 0] ∧ win0_1.index t = ![0, 0] := by decide +kernel

/-- The call's input block is the transposed weight. -/
theorem blk0 (t : Fin cfg0.N) (k : Fin 1024) (j : Fin 2312) :
    iblk m c 0 t (ix2 j k) = m ((c : Thread nD τ).loc main_arg0) (ix2 k j) := by
  blk_simp [iblk, idx t]; entry_read; pointwise; blk_ext [iblk, idx t]

theorem packed_low (w : Fin 1024 → Fin 2312 → EReal) (k k' : Fin 1024) (j : Fin 2432) (i : Fin 2312) (hk : k = k') (h : j.val < 1536) (hi : i.val = j.val) :
    packed w k j = w k' i := by
  subst hk
  unfold packed
  rw [dif_pos h]
  exact congrArg (w k) (Fin.ext hi.symm)

theorem packed_query (w : Fin 1024 → Fin 2312 → EReal) (k k' : Fin 1024) (j : Fin 2432) (i : Fin 2312) (hk : k = k') (h : 1536 ≤ j.val) (h' : j.val < 2048)
    (hi : i.val = j.val + 8) : packed w k j = w k' i * Ideal.ofBits FTy.f32 0x3E000000#32 := by
  subst hk
  unfold packed
  rw [dif_neg (by omega), dif_pos h']
  exact congrArg (fun i => w k i * _) (Fin.ext hi.symm)

theorem packed_key (w : Fin 1024 → Fin 2312 → EReal) (k k' : Fin 1024) (j : Fin 2432) (i : Fin 2312) (hk : k = k') (h : 2048 ≤ j.val) (h' : j.val < 2304)
    (hi : i.val = j.val + 8) : packed w k j = w k' i := by
  subst hk
  unfold packed
  rw [dif_neg (by omega), dif_neg (by omega), dif_pos h']
  exact congrArg (w k) (Fin.ext hi.symm)

theorem packed_step (w : Fin 1024 → Fin 2312 → EReal) (k k' : Fin 1024) (j : Fin 2432) (i : Fin 2312) (hk : k = k') (h : 2304 ≤ j.val) (h' : j.val < 2312)
    (hi : i.val + 768 = j.val) : packed w k j = w k' i := by
  subst hk
  unfold packed
  rw [dif_neg (by omega), dif_neg (by omega), dif_neg (by omega), dif_pos h']
  exact congrArg (w k) (Fin.ext (by simp only []; omega))

theorem packed_zero (w : Fin 1024 → Fin 2312 → EReal) (k : Fin 1024) (j : Fin 2432) (h : 2312 ≤ j.val) : packed w k j = Ideal.ofBits FTy.f32 0x00000000#32 := by
  unfold packed
  rw [dif_neg (by omega), dif_neg (by omega), dif_neg (by omega), dif_neg (by omega)]

/-- What the body leaves in its output. -/
theorem out_apply (a0 : Memref sig .tc .vmem S2312x1024 .f32) (h0 : a0.IsWhole) (a1 : Memref sig .tc .vmem S1024x2432 .bf16) (h1 : a1.IsWhole)
    (x : Vec Ideal S2312x1024 .f32) (y : S1024x2432.Idx) :
    out0_A_1 (F := Ideal) c a0 h0 a1 h1 x y = packed (fun k j => x (ix2 j k)) (y 0) (y 1) := by
  frame_out
  refine View.canon_apply_of_pieces (Val := Elt Ideal) (e := .bf16) (fun y : S1024x2432.Idx => packed (fun k j => x (ix2 j k)) (y 0) (y 1)) _ ?_ y ?_
  swap; · exact View.cover_of_tiledBy _ ![1024, 128] (by sl_kernel_rfl) y
  simp only [List.forall_mem_cons, List.not_mem_nil, false_imp_iff, implies_true, and_true]
  refine ⟨fun z => ?_, fun z => ?_, fun z => ?_, fun z => ?_, fun z => ?_, fun z => ?_, fun z => ?_, fun z => ?_, fun z => ?_, fun z => ?_⟩
  · obtain ⟨k, q, rfl⟩ : ∃ (k : Fin 1024) (q : Fin 128), z = ix2 k q := ⟨z 0, z 1, eq_ix2 z⟩
    by_cases hq : q.val < 8
    · refine Eq.trans ?_ (packed_step (fun k j => x (ix2 j k)) _ k _ ⟨1536 + 1 * q.val, by omega⟩ (Fin.ext (show 0 + 1 * k.val = k.val by omega)) (by show 2304 ≤ 2304 + 1 * q.val; omega) (by show 2304 + 1 * q.val < 2312; omega) (by show 1536 + 1 * q.val + 768 = 2304 + 1 * q.val; omega)).symm
      pointwise [k0_pay4]
      rw [dif_pos hq]
      blk_ext []
    · refine Eq.trans ?_ (packed_zero (fun k j => x (ix2 j k)) _ _ (by show 2312 ≤ 2304 + 1 * q.val; omega)).symm
      pointwise [k0_pay4]
      rw [dif_neg hq]
  · obtain ⟨k, q, rfl⟩ : ∃ (k : Fin 1024) (q : Fin 256), z = ix2 k q := ⟨z 0, z 1, eq_ix2 z⟩
    refine Eq.trans ?_ (packed_key (fun k j => x (ix2 j k)) _ k _ ⟨2056 + 1 * q.val, by omega⟩ (Fin.ext (show 0 + 1 * k.val = k.val by omega)) (by show 2048 ≤ 2048 + 1 * q.val; omega) (by show 2048 + 1 * q.val < 2304; omega) (by show 2056 + 1 * q.val = 2048 + 1 * q.val + 8; omega)).symm
    pointwise [k0_pay3]
    blk_ext []
  · obtain ⟨k, q, rfl⟩ : ∃ (k : Fin 1024) (q : Fin 256), z = ix2 k q := ⟨z 0, z 1, eq_ix2 z⟩
    refine Eq.trans ?_ (packed_query (fun k j => x (ix2 j k)) _ k _ ⟨1800 + 1 * q.val, by omega⟩ (Fin.ext (show 0 + 1 * k.val = k.val by omega)) (by show 1536 ≤ 1792 + 1 * q.val; omega) (by show 1792 + 1 * q.val < 2048; omega) (by show 1800 + 1 * q.val = 1792 + 1 * q.val + 8; omega)).symm
    pointwise [k0_pay2]
    blk_ext []
  · obtain ⟨k, q, rfl⟩ : ∃ (k : Fin 1024) (q : Fin 256), z = ix2 k q := ⟨z 0, z 1, eq_ix2 z⟩
    refine Eq.trans ?_ (packed_query (fun k j => x (ix2 j k)) _ k _ ⟨1544 + 1 * q.val, by omega⟩ (Fin.ext (show 0 + 1 * k.val = k.val by omega)) (by show 1536 ≤ 1536 + 1 * q.val; omega) (by show 1536 + 1 * q.val < 2048; omega) (by show 1544 + 1 * q.val = 1536 + 1 * q.val + 8; omega)).symm
    pointwise [k0_pay1]
    blk_ext []
  · obtain ⟨k, q, rfl⟩ : ∃ (k : Fin 1024) (q : Fin 256), z = ix2 k q := ⟨z 0, z 1, eq_ix2 z⟩
    refine Eq.trans ?_ (packed_low (fun k j => x (ix2 j k)) _ k _ ⟨1280 + 1 * q.val, by omega⟩ (Fin.ext (show 0 + 1 * k.val = k.val by omega)) (by show 1280 + 1 * q.val < 1536; omega) (by show 1280 + 1 * q.val = 1280 + 1 * q.val; omega)).symm
    pointwise [k0_pay10]
    blk_ext []
  · obtain ⟨k, q, rfl⟩ : ∃ (k : Fin 1024) (q : Fin 256), z = ix2 k q := ⟨z 0, z 1, eq_ix2 z⟩
    refine Eq.trans ?_ (packed_low (fun k j => x (ix2 j k)) _ k _ ⟨1024 + 1 * q.val, by omega⟩ (Fin.ext (show 0 + 1 * k.val = k.val by omega)) (by show 1024 + 1 * q.val < 1536; omega) (by show 1024 + 1 * q.val = 1024 + 1 * q.val; omega)).symm
    pointwise [k0_pay9]
    blk_ext []
  · obtain ⟨k, q, rfl⟩ : ∃ (k : Fin 1024) (q : Fin 256), z = ix2 k q := ⟨z 0, z 1, eq_ix2 z⟩
    refine Eq.trans ?_ (packed_low (fun k j => x (ix2 j k)) _ k _ ⟨768 + 1 * q.val, by omega⟩ (Fin.ext (show 0 + 1 * k.val = k.val by omega)) (by show 768 + 1 * q.val < 1536; omega) (by show 768 + 1 * q.val = 768 + 1 * q.val; omega)).symm
    pointwise [k0_pay8]
    blk_ext []
  · obtain ⟨k, q, rfl⟩ : ∃ (k : Fin 1024) (q : Fin 256), z = ix2 k q := ⟨z 0, z 1, eq_ix2 z⟩
    refine Eq.trans ?_ (packed_low (fun k j => x (ix2 j k)) _ k _ ⟨512 + 1 * q.val, by omega⟩ (Fin.ext (show 0 + 1 * k.val = k.val by omega)) (by show 512 + 1 * q.val < 1536; omega) (by show 512 + 1 * q.val = 512 + 1 * q.val; omega)).symm
    pointwise [k0_pay7]
    blk_ext []
  · obtain ⟨k, q, rfl⟩ : ∃ (k : Fin 1024) (q : Fin 256), z = ix2 k q := ⟨z 0, z 1, eq_ix2 z⟩
    refine Eq.trans ?_ (packed_low (fun k j => x (ix2 j k)) _ k _ ⟨256 + 1 * q.val, by omega⟩ (Fin.ext (show 0 + 1 * k.val = k.val by omega)) (by show 256 + 1 * q.val < 1536; omega) (by show 256 + 1 * q.val = 256 + 1 * q.val; omega)).symm
    pointwise [k0_pay6]
    blk_ext []
  · obtain ⟨k, q, rfl⟩ : ∃ (k : Fin 1024) (q : Fin 256), z = ix2 k q := ⟨z 0, z 1, eq_ix2 z⟩
    refine Eq.trans ?_ (packed_low (fun k j => x (ix2 j k)) _ k _ ⟨0 + 1 * q.val, by omega⟩ (Fin.ext (show 0 + 1 * k.val = k.val by omega)) (by show 0 + 1 * q.val < 1536; omega) (by show 0 + 1 * q.val = 0 + 1 * q.val; omega)).symm
    pointwise [k0_pay5]
    blk_ext []

theorem arr1 : (dats m 0 c).arrAt 1 (cfgs 0).N = fun i : S1024x2432.Idx =>
    packed (fun k j => m ((c : Thread nD τ).loc main_arg0) (ix2 k j)) (i 0) (i 1) := by
  refine (dats m 0 c).arrAt_eq_of_covers 1 _ (by decide +kernel) fun t hf y => ?_
  blk_simp
  rw [after0_1]
  refine (out_apply c _ _ _ _ _ y).trans ?_
  simp only [blk0]
  obtain ⟨k, j, rfl⟩ : ∃ (k : Fin 1024) (j : Fin 2432), y = ix2 k j := ⟨y 0, y 1, eq_ix2 y⟩
  refine congrArg₂ _ ?_ ?_ <;> refine Fin.ext ?_ <;> blk_simp [idx t]

theorem claim : Cert.algebraic_Kernel5Ideal_Reference5Ideal := by
  pair_intro
  · run_from Cert.Kernel5Ideal.Value.run_blocks m g
  · refine θ_run_mono (Cert.Reference5Ideal.Value.run m' g') ?_
    intro r hr c
    obtain ⟨h1, hrest⟩ := hr c
    have a0 := hagree c
    refine ⟨h1.trans ?_, hrest⟩
    rw [a0, arr1 m c]
    funext i
    obtain ⟨k, j, rfl⟩ : ∃ (k : Fin 1024) (j : Fin 2432), i = ix2 k j := ⟨i 0, i 1, eq_ix2 i⟩
    by_cases p1 : j.val < 1536
    · refine Eq.trans ?_ (packed_low _ k k j ⟨j, by omega⟩ rfl p1 rfl).symm
      pointwise
      rw [dif_pos p1]
      blk_ext []
    by_cases p2 : j.val < 2048
    · refine Eq.trans ?_ (packed_query _ k k j ⟨j + 8, by omega⟩ rfl (by omega) p2 rfl).symm
      pointwise
      rw [dif_neg p1, dif_pos (by omega)]
      refine congrArg (fun v => v * _) ?_
      blk_ext []
    by_cases p3 : j.val < 2304
    · refine Eq.trans ?_ (packed_key _ k k j ⟨j + 8, by omega⟩ rfl (by omega) p3 rfl).symm
      pointwise
      rw [dif_neg p1, dif_neg (by omega), dif_pos (by omega)]
      blk_ext []
    by_cases p4 : j.val < 2312
    · refine Eq.trans ?_ (packed_step _ k k j ⟨j - 768, by omega⟩ rfl (by omega) p4 (by show j.val - 768 + 768 = j.val; omega)).symm
      pointwise
      rw [dif_neg p1, dif_neg (by omega), dif_neg (by omega), dif_pos (by omega)]
      blk_ext []
    · refine Eq.trans ?_ (packed_zero _ k j (by omega)).symm
      pointwise
      rw [dif_neg p1, dif_neg (by omega), dif_neg (by omega), dif_neg (by omega)]

end Cert.Pack
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite_projection
public import proofs.«01_k».proof.Proof.Gen.KernelIdeal.Value
public import proofs.«01_k».proof.Proof.Gen.ReferenceIdeal.Run
public import proofs.«01_k».proof.Proof.MixValue
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Pre_finite_attention
public import proofs.«01_k».proof.Proof.Gen.Kernel2Ideal.Value
public import proofs.«01_k».proof.Proof.Gen.Reference2Ideal.Run
public import proofs.«01_k».proof.Proof.XattnValue
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.FfnValue
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.MemKv
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Pack
public import Idealize.ShloMosaic.Adequacy
public import Idealize.ShloMosaic.Init
public import Idealize.ShloMosaic.Lib.Claim

/-! The claims about the kernels and the references, put together from the modules that prove them. -/

@[expose] public section

noncomputable section

namespace Cert.Proof

open Idealize.ShloMosaic Idealize.SL.Sem

/-- The reference of Kernel ends without a fault and leaves its arguments alone. -/
theorem reference : Cert.quiescent_ReferenceIdeal := by
  intro m ρ _
  hlo_run <;> first | exact sem_eq_zero_of_no_sems (by decide) _ | simp

/-- The reference of Kernel2 ends without a fault and leaves its arguments alone. -/
theorem reference2 : Cert.quiescent_Reference2Ideal := by
  intro m ρ _
  hlo_run <;> first | exact sem_eq_zero_of_no_sems (by decide) _ | simp

/-- The reference of Kernel3 ends without a fault and leaves its arguments alone. -/
theorem reference3 : Cert.quiescent_Reference3Ideal := by
  intro m ρ _
  hlo_run <;> first | exact sem_eq_zero_of_no_sems (by decide) _ | simp

/-- The reference of Kernel4 ends without a fault and leaves its arguments alone. -/
theorem reference4 : Cert.quiescent_Reference4Ideal := by
  intro m ρ _
  hlo_run <;> first | exact sem_eq_zero_of_no_sems (by decide) _ | simp

/-- The reference of Kernel5 ends without a fault and leaves its arguments alone. -/
theorem reference5 : Cert.quiescent_Reference5Ideal := by
  intro m ρ _
  hlo_run <;> first | exact sem_eq_zero_of_no_sems (by decide) _ | simp

theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Pre_finite_projection.Gen.facts,
   Cert.Pre_finite_attention.Gen.facts,
   fun m ρ _ => Cert.Kernel.Gen.frame m ρ,
   fun m ρ _ => Cert.KernelIdeal.Gen.frame m ρ,
   fun m ρ _ => Cert.KernelIdeal.Gen.frame m ρ,
   Cert.Proof.reference,
   fun m ρ _ => Cert.Proof.reference m ρ trivial,
   fun m ρ _ => Cert.Kernel2.Gen.frame m ρ,
   fun m ρ _ => Cert.Kernel2Ideal.Gen.frame m ρ,
   fun m ρ _ => Cert.Kernel2Ideal.Gen.frame m ρ,
   Cert.Proof.reference2,
   fun m ρ _ => Cert.Proof.reference2 m ρ trivial,
   Cert.Ffn.frame_kernel,
   Cert.Ffn.frame_ideal,
   Cert.Proof.reference3,
   fun m ρ _ => Cert.Kernel4.Gen.frame m ρ,
   fun m ρ _ => Cert.Kernel4Ideal.Gen.frame m ρ,
   Cert.Proof.reference4,
   fun m ρ _ => Cert.Kernel5.Gen.frame m ρ,
   fun m ρ _ => Cert.Kernel5Ideal.Gen.frame m ρ,
   Cert.Proof.reference5,
   trivial,
   Cert.Mix.claim,
   trivial,
   Cert.Xattn.claim,
   trivial,
   Cert.Ffn.claim,
   trivial,
   Cert.MemKv.claim,
   trivial,
   Cert.Pack.claim⟩

end Cert.Proof

end
